-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x4096x2048 : Shape := ⟨3, ![2, 4096, 2048]⟩
abbrev S64x2048 : Shape := ⟨2, ![64, 2048]⟩
abbrev S_ : Shape := ⟨0, ![]⟩
abbrev S64x1024 : Shape := ⟨2, ![64, 1024]⟩
abbrev S2048x1024 : Shape := ⟨2, ![2048, 1024]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S2048x64 : Shape := ⟨2, ![2048, 64]⟩
abbrev S2x4096x64 : Shape := ⟨3, ![2, 4096, 64]⟩
abbrev S2x4096x9 : Shape := ⟨3, ![2, 4096, 9]⟩
abbrev S2x4096x8 : Shape := ⟨3, ![2, 4096, 8]⟩

class Facts : Prop where
  reducesTo_S2x4096x2048_S2x4096_d2 : S2x4096x2048.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x2048_0_1_2 : S2x4096x1.BroadcastsInDim S2x4096x2048 (![0, 1, 2] : Fin 3 → Fin S2x4096x2048.rank)
  bcast_S2048_S1x1x2048_2 : S2048.BroadcastsInDim S1x1x2048 (![2] : Fin 1 → Fin S1x1x2048.rank)
  bcast_S1x1x2048_S2x4096x2048_0_1_2 : S1x1x2048.BroadcastsInDim S2x4096x2048 (![0, 1, 2] : Fin 3 → Fin S2x4096x2048.rank)
  transposes_S64x2048_S2048x64_1_0 : S64x2048.Transposes [1, 0] S2048x64
  bcast_S_S2x4096x64 : S_.BroadcastsInDim S2x4096x64 (![] : Fin 0 → Fin S2x4096x64.rank)
  sliceFits_S2x4096x64_S2x4096x9 : S2x4096x64.Slices (fun _ => 0) S2x4096x9
  slices_S2x4096x9_S2x4096x8_0_0_0 : S2x4096x9.Slices ![0, 0, 0] S2x4096x8
  slices_S2x4096x9_S2x4096x8_0_0_1 : S2x4096x9.Slices ![0, 0, 1] S2x4096x8
  slices_S2x4096x9_S2x4096x1_0_0_0 : S2x4096x9.Slices ![0, 0, 0] S2x4096x1
  bcast_S_S64x1024 : S_.BroadcastsInDim S64x1024 (![] : Fin 0 → Fin S64x1024.rank)
  bcast_S_S2048x1024 : S_.BroadcastsInDim S2048x1024 (![] : Fin 0 → Fin S2048x1024.rank)
  bcast_S_S2048 : S_.BroadcastsInDim S2048 (![] : Fin 0 → Fin S2048.rank)
  dot_S2x4096x2048_S2048x64_S2x4096x64_2_0_01_1_n_n_wf : DotDims.WF S2x4096x2048 S2048x64 S2x4096x64 [2] [0] [0, 1] [1] [] []

variable [Facts]

def dot_S2x4096x2048_S2048x64_S2x4096x64_2_0_01_1_n_n : DotDims S2x4096x2048 S2048x64 S2x4096x64 where
  lhsContracting := [2]
  rhsContracting := [0]
  lhsNonContracting := [0, 1]
  rhsNonContracting := [1]
  lhsBatch := []
  rhsBatch := []
  wf := dot_S2x4096x2048_S2048x64_S2x4096x64_2_0_01_1_n_n_wf
def fn_part2 {F : FTy → Type} [FloatOps F] (main_v20 : IVec S2x4096x8 1) (main_v23 : IVec S2x4096x1 1) (main_v26 : IVec S64x1024 1) (main_v29 : IVec S2048x1024 1) (main_v32 : IVec S2048x1024 1) (main_v35 : IVec S2048 1) (main_v36 : FVec F S_ .f32) : IVec S2x4096x8 1 × IVec S2x4096x1 1 × IVec S64x1024 1 × IVec S2048x1024 1 × IVec S2048x1024 1 × IVec S2048 1 × IVec S_ 1 :=
  let main_cst_8 : FVec F S_ .f32 := constant S_ .f32 0x7F800000#32
  let main_v37 : IVec S_ 1 := cmpf .olt main_v36 main_cst_8
  (main_v20, main_v23, main_v26, main_v29, main_v32, main_v35, main_v37)

def fn_part1 {F : FTy → Type} [FloatOps F] (main_arg3 : FVec F S64x1024 .f32) (main_arg4 : FVec F S2048x1024 .f32) (main_arg5 : FVec F S2048x1024 .f32) (main_arg6 : FVec F S2048 .f32) (main_arg7 : FVec F S_ .f32) (main_values : FVec F S2x4096x9 .f32) : IVec S2x4096x8 1 × IVec S2x4096x1 1 × IVec S64x1024 1 × IVec S2048x1024 1 × IVec S2048x1024 1 × IVec S2048 1 × IVec S_ 1 :=
  let main_v18 : FVec F S2x4096x8 .f32 := (extractStridedSlice S2x4096x8 ![0, 0, 0] · slices_S2x4096x9_S2x4096x8_0_0_0) main_values
  let main_v19 : FVec F S2x4096x8 .f32 := (extractStridedSlice S2x4096x8 ![0, 0, 1] · slices_S2x4096x9_S2x4096x8_0_0_1) main_values
  let main_v20 : IVec S2x4096x8 1 := cmpf .ogt main_v18 main_v19
  let main_v21 : FVec F S2x4096x1 .f32 := (extractStridedSlice S2x4096x1 ![0, 0, 0] · slices_S2x4096x9_S2x4096x1_0_0_0) main_values
  let main_cst_3 : FVec F S_ .f32 := constant S_ .f32 0x7F800000#32
  let main_v22 : FVec F S2x4096x1 .f32 := broadcastInDim S2x4096x1 ![] bcast_S_S2x4096x1 main_cst_3
  let main_v23 : IVec S2x4096x1 1 := cmpf .olt main_v21 main_v22
  let main_v24 : FVec F S64x1024 .f32 := Host.absf main_arg3
  let main_cst_4 : FVec F S_ .f32 := constant S_ .f32 0x7F800000#32
  let main_v25 : FVec F S64x1024 .f32 := broadcastInDim S64x1024 ![] bcast_S_S64x1024 main_cst_4
  let main_v26 : IVec S64x1024 1 := cmpf .olt main_v24 main_v25
  let main_v27 : FVec F S2048x1024 .f32 := Host.absf main_arg4
  let main_cst_5 : FVec F S_ .f32 := constant S_ .f32 0x7F800000#32
  let main_v28 : FVec F S2048x1024 .f32 := broadcastInDim S2048x1024 ![] bcast_S_S2048x1024 main_cst_5
  let main_v29 : IVec S2048x1024 1 := cmpf .olt main_v27 main_v28
  let main_v30 : FVec F S2048x1024 .f32 := Host.absf main_arg5
  let main_cst_6 : FVec F S_ .f32 := constant S_ .f32 0x7F800000#32
  let main_v31 : FVec F S2048x1024 .f32 := broadcastInDim S2048x1024 ![] bcast_S_S2048x1024 main_cst_6
  let main_v32 : IVec S2048x1024 1 := cmpf .olt main_v30 main_v31
  let main_v33 : FVec F S2048 .f32 := Host.absf main_arg6
  let main_cst_7 : FVec F S_ .f32 := constant S_ .f32 0x7F800000#32
  let main_v34 : FVec F S2048 .f32 := broadcastInDim S2048 ![] bcast_S_S2048 main_cst_7
  let main_v35 : IVec S2048 1 := cmpf .olt main_v33 main_v34
  let main_v36 : FVec F S_ .f32 := Host.absf main_arg7
  fn_part2 (F := F) main_v20 main_v23 main_v26 main_v29 main_v32 main_v35 main_v36

def fn {F : FTy → Type} [FloatOps F] (main_arg0 : FVec F S2x4096x2048 .f32) (main_arg1 : FVec F S64x2048 .f32) (main_arg2 : FVec F S_ .f32) (main_arg3 : FVec F S64x1024 .f32) (main_arg4 : FVec F S2048x1024 .f32) (main_arg5 : FVec F S2048x1024 .f32) (main_arg6 : FVec F S2048 .f32) (main_arg7 : FVec F S_ .f32) : IVec S2x4096x8 1 × IVec S2x4096x1 1 × IVec S64x1024 1 × IVec S2048x1024 1 × IVec S2048x1024 1 × IVec S2048 1 × IVec S_ 1 :=
  let main_v0 : FVec F S2x4096x2048 .f32 := mulf main_arg0 main_arg0
  let main_cst : FVec F S_ .f32 := constant S_ .f32 0x00000000#32
  let main_v1 : FVec F S2x4096 .f32 := (fun x v => Host.reduceAdd x v reducesTo_S2x4096x2048_S2x4096_d2 h_S_) main_v0 main_cst
  let main_v2 : FVec F S2x4096x1 .f32 := broadcastInDim S2x4096x1 ![0, 1] bcast_S2x4096_S2x4096x1_0_1 main_v1
  let main_cst_0 : FVec F S_ .f32 := constant S_ .f32 0x45000000#32
  let main_v3 : FVec F S2x4096x1 .f32 := broadcastInDim S2x4096x1 ![] bcast_S_S2x4096x1 main_cst_0
  let main_v4 : FVec F S2x4096x1 .f32 := Host.divf main_v2 main_v3
  let main_cst_1 : FVec F S_ .f32 := constant S_ .f32 0x358637BD#32
  let main_v5 : FVec F S2x4096x1 .f32 := broadcastInDim S2x4096x1 ![] bcast_S_S2x4096x1 main_cst_1
  let main_v6 : FVec F S2x4096x1 .f32 := addf main_v4 main_v5
  let main_v7 : FVec F S2x4096x1 .f32 := Host.rsqrt main_v6
  let main_v8 : FVec F S2x4096x2048 .f32 := broadcastInDim S2x4096x2048 ![0, 1, 2] bcast_S2x4096x1_S2x4096x2048_0_1_2 main_v7
  let main_v9 : FVec F S2x4096x2048 .f32 := mulf main_arg0 main_v8
  let main_v10 : FVec F S1x1x2048 .f32 := broadcastInDim S1x1x2048 ![2] bcast_S2048_S1x1x2048_2 main_arg6
  let main_v11 : FVec F S2x4096x2048 .f32 := broadcastInDim S2x4096x2048 ![0, 1, 2] bcast_S1x1x2048_S2x4096x2048_0_1_2 main_v10
  let main_v12 : FVec F S2x4096x2048 .f32 := mulf main_v9 main_v11
  let main_v13 : FVec F S2048x64 .f32 := (transpose S2048x64 [1, 0] · transposes_S64x2048_S2048x64_1_0) main_arg1
  let main_v14 : FVec F S2x4096x64 .f32 := (fun l r => Host.dotGeneral dot_S2x4096x2048_S2048x64_S2x4096x64_2_0_01_1_n_n none l r) main_v12 main_v13
  let main_cst_2 : FVec F S_ .f32 := constant S_ .f32 0x3DCCCCCD#32
  let main_v15 : FVec F S_ .f32 := maximumf main_arg2 main_cst_2
  let main_v16 : FVec F S2x4096x64 .f32 := broadcastInDim S2x4096x64 ![] bcast_S_S2x4096x64 main_v15
  let main_v17 : FVec F S2x4096x64 .f32 := Host.divf main_v14 main_v16
  let main_values : FVec F S2x4096x9 .f32 := (fun x => (Host.topK S2x4096x9 2 (FloatOps.cmpfTotal .gt) x sliceFits_S2x4096x64_S2x4096x9).1) main_v17
  let main_indices : IVec S2x4096x9 32 := (fun x => (Host.topK S2x4096x9 2 (FloatOps.cmpfTotal .gt) x sliceFits_S2x4096x64_S2x4096x9).2) main_v17
  fn_part1 (F := F) main_arg3 main_arg4 main_arg5 main_arg6 main_arg7 main_values
-- ==== Kernel.lean ====
abbrev S2x4096x2048 : Shape := ⟨3, ![2, 4096, 2048]⟩
abbrev S64x2048 : Shape := ⟨2, ![64, 2048]⟩
abbrev S_ : Shape := ⟨0, ![]⟩
abbrev S64x1024 : Shape := ⟨2, ![64, 1024]⟩
abbrev S2048x1024 : Shape := ⟨2, ![2048, 1024]⟩
abbrev S2048 : Shape := ⟨1, ![2048]⟩
abbrev S8192x2048 : Shape := ⟨2, ![8192, 2048]⟩
abbrev S1 : Shape := ⟨1, ![1]⟩
abbrev S2 : Shape := ⟨1, ![2]⟩
abbrev S1x2048 : Shape := ⟨2, ![1, 2048]⟩
abbrev S64x4096 : Shape := ⟨2, ![64, 4096]⟩
abbrev S1024x2048 : Shape := ⟨2, ![1024, 2048]⟩
abbrev S1024 : Shape := ⟨1, ![1024]⟩
abbrev S1024x1 : Shape := ⟨2, ![1024, 1]⟩
abbrev S1x1024 : Shape := ⟨2, ![1, 1024]⟩
abbrev S1024x4096 : Shape := ⟨2, ![1024, 4096]⟩

abbrev nBuf : Space → Nat
  | .hbm => 21
  | .vmem => 13
  | .smem => 1
  | _ => 0

abbrev bufTy : (tb : Table) → Fin (tcTables nBuf tb) → BufTy
  | .hbm, ⟨0, _⟩ => ⟨S2x4096x2048, .f32⟩
  | .hbm, ⟨1, _⟩ => ⟨S64x2048, .f32⟩
  | .hbm, ⟨2, _⟩ => ⟨S_, .f32⟩
  | .hbm, ⟨3, _⟩ => ⟨S64x1024, .f32⟩
  | .hbm, ⟨4, _⟩ => ⟨S2048x1024, .f32⟩
  | .hbm, ⟨5, _⟩ => ⟨S2048x1024, .f32⟩
  | .hbm, ⟨6, _⟩ => ⟨S2048, .f32⟩
  | .hbm, ⟨7, _⟩ => ⟨S_, .f32⟩
  | .hbm, ⟨8, _⟩ => ⟨S8192x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S2, .f32⟩
  | .hbm, ⟨16, _⟩ => ⟨S1x2048, .f32⟩
  | .hbm, ⟨17, _⟩ => ⟨S64x2048, .f32⟩
  | .hbm, ⟨18, _⟩ => ⟨S64x4096, .f32⟩
  | .hbm, ⟨19, _⟩ => ⟨S8192x2048, .f32⟩
  | .hbm, ⟨20, _⟩ => ⟨S2x4096x2048, .f32⟩
  | .local _ .vmem, ⟨0, _⟩ => ⟨S64x1024, .f32⟩
  | .local _ .vmem, ⟨1, _⟩ => ⟨S2048x1024, .f32⟩
  | .local _ .vmem, ⟨2, _⟩ => ⟨S2048x1024, .f32⟩
  | .local _ .vmem, ⟨3, _⟩ => ⟨S64x2048, .f32⟩
  | .local _ .vmem, ⟨4, _⟩ => ⟨S1x2048, .f32⟩
  | .local _ .vmem, ⟨5, _⟩ => ⟨S64x2048, .f32⟩
  | .local _ .vmem, ⟨6, _⟩ => ⟨S64x4096, .f32⟩
  | .local _ .vmem, ⟨7, _⟩ => ⟨S1024x2048, .f32⟩
  | .local _ .vmem, ⟨8, _⟩ => ⟨S1024x2048, .f32⟩
  | .local _ .vmem, ⟨9, _⟩ => ⟨S64x2048, .f32⟩
  | .local _ .vmem, ⟨10, _⟩ => ⟨S64x4096, .f32⟩
  | .local _ .vmem, ⟨11, _⟩ => ⟨S1024x2048, .f32⟩
  | .local _ .vmem, ⟨12, _⟩ => ⟨S1024x2048, .f32⟩
  | .local _ .smem, ⟨0, _⟩ => ⟨S2, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev main_v9 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := .none

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S2x4096x2048 : Shape := ⟨3, ![2, 4096, 2048]⟩
abbrev S64x2048 : Shape := ⟨2, ![64, 2048]⟩
abbrev S_ : Shape := ⟨0, ![]⟩
abbrev S64x1024 : Shape := ⟨2, ![64, 1024]⟩
abbrev S2048x1024 : Shape := ⟨2, ![2048, 1024]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S2048x64 : Shape := ⟨2, ![2048, 64]⟩
abbrev S2x4096x64 : Shape := ⟨3, ![2, 4096, 64]⟩
abbrev S2x4096x8 : Shape := ⟨3, ![2, 4096, 8]⟩
abbrev S8192x8 : Shape := ⟨2, ![8192, 8]⟩
abbrev S8192 : Shape := ⟨1, ![8192]⟩
abbrev S8192x1 : Shape := ⟨2, ![8192, 1]⟩
abbrev S8192x64 : Shape := ⟨2, ![8192, 64]⟩
abbrev S8192x8x1 : Shape := ⟨3, ![8192, 8, 1]⟩
abbrev S8192x8x2 : Shape := ⟨3, ![8192, 8, 2]⟩
abbrev S2x4096x1024 : Shape := ⟨3, ![2, 4096, 1024]⟩
abbrev S1024x2048 : Shape := ⟨2, ![1024, 2048]⟩

abbrev nBuf : Space → Nat
  | .hbm => 82
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S64x2048, .f32⟩
  | .hbm, ⟨2, _⟩ => ⟨S_, .f32⟩
  | .hbm, ⟨3, _⟩ => ⟨S64x1024, .f32⟩
  | .hbm, ⟨4, _⟩ => ⟨S2048x1024, .f32⟩
  | .hbm, ⟨5, _⟩ => ⟨S2048x1024, .f32⟩
  | .hbm, ⟨6, _⟩ => ⟨S2048, .f32⟩
  | .hbm, ⟨7, _⟩ => ⟨S_, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S2048x64, .f32⟩
  | .hbm, ⟨25, _⟩ => ⟨S2x4096x64, .f32⟩
  | .hbm, ⟨26, _⟩ => ⟨S_, .f32⟩
  | .hbm, ⟨27, _⟩ => ⟨S_, .f32⟩
  | .hbm, ⟨28, _⟩ => ⟨S2x4096x64, .f32⟩
  | .hbm, ⟨29, _⟩ => ⟨S2x4096x64, .f32⟩
  | .hbm, ⟨30, _⟩ => ⟨S2x4096x8, .f32⟩
  | .hbm, ⟨31, _⟩ => ⟨S2x4096x8, .i32⟩
  | .hbm, ⟨32, _⟩ => ⟨S_, .f32⟩
  | .hbm, ⟨33, _⟩ => ⟨S2x4096, .f32⟩
  | .hbm, ⟨34, _⟩ => ⟨S_, .f32⟩
  | .hbm, ⟨35, _⟩ => ⟨S2x4096, .f32⟩
  | .hbm, ⟨36, _⟩ => ⟨S2x4096, .f32⟩
  | .hbm, ⟨37, _⟩ => ⟨S2x4096x1, .f32⟩
  | .hbm, ⟨38, _⟩ => ⟨S2x4096x8, .f32⟩
  | .hbm, ⟨39, _⟩ => ⟨S2x4096x8, .f32⟩
  | .hbm, ⟨40, _⟩ => ⟨S2x4096x8, .f32⟩
  | .hbm, ⟨41, _⟩ => ⟨S_, .f32⟩
  | .hbm, ⟨42, _⟩ => ⟨S2x4096, .f32⟩
  | .hbm, ⟨43, _⟩ => ⟨S2x4096x1, .f32⟩
  | .hbm, ⟨44, _⟩ => ⟨S2x4096x8, .f32⟩
  | .hbm, ⟨45, _⟩ => ⟨S2x4096x8, .f32⟩
  | .hbm, ⟨46, _⟩ => ⟨S8192x8, .i32⟩
  | .hbm, ⟨47, _⟩ => ⟨S8192x8, .f32⟩
  | .hbm, ⟨48, _⟩ => ⟨S8192, .i32⟩
  | .hbm, ⟨49, _⟩ => ⟨S8192x1, .i32⟩
  | .hbm, ⟨50, _⟩ => ⟨S_, .f32⟩
  | .hbm, ⟨51, _⟩ => ⟨S8192x64, .f32⟩
  | .hbm, ⟨52, _⟩ => ⟨S_, .i32⟩
  | .hbm, ⟨53, _⟩ => ⟨S8192x1, .i32⟩
  | .hbm, ⟨54, _⟩ => ⟨S8192x1, .i1⟩
  | .hbm, ⟨55, _⟩ => ⟨S_, .i32⟩
  | .hbm, ⟨56, _⟩ => ⟨S8192x1, .i32⟩
  | .hbm, ⟨57, _⟩ => ⟨S8192x1, .i32⟩
  | .hbm, ⟨58, _⟩ => ⟨S8192x1, .i32⟩
  | .hbm, ⟨59, _⟩ => ⟨S_, .i32⟩
  | .hbm, ⟨60, _⟩ => ⟨S8192x8, .i32⟩
  | .hbm, ⟨61, _⟩ => ⟨S8192x8, .i1⟩
  | .hbm, ⟨62, _⟩ => ⟨S_, .i32⟩
  | .hbm, ⟨63, _⟩ => ⟨S8192x8, .i32⟩
  | .hbm, ⟨64, _⟩ => ⟨S8192x8, .i32⟩
  | .hbm, ⟨65, _⟩ => ⟨S8192x8, .i32⟩
  | .hbm, ⟨66, _⟩ => ⟨S8192x8, .i32⟩
  | .hbm, ⟨67, _⟩ => ⟨S8192x8x1, .i32⟩
  | .hbm, ⟨68, _⟩ => ⟨S8192x8x1, .i32⟩
  | .hbm, ⟨69, _⟩ => ⟨S8192x8x2, .i32⟩
  | .hbm, ⟨70, _⟩ => ⟨S8192x64, .f32⟩
  | .hbm, ⟨71, _⟩ => ⟨S2x4096x64, .f32⟩
  | .hbm, ⟨72, _⟩ => ⟨S2x4096x1024, .f32⟩
  | .hbm, ⟨73, _⟩ => ⟨S1024x2048, .f32⟩
  | .hbm, ⟨74, _⟩ => ⟨S2x4096x2048, .f32⟩
  | .hbm, ⟨75, _⟩ => ⟨S2x4096x2048, .f32⟩
  | .hbm, ⟨76, _⟩ => ⟨S2x4096x2048, .f32⟩
  | .hbm, ⟨77, _⟩ => ⟨S1024x2048, .f32⟩
  | .hbm, ⟨78, _⟩ => ⟨S2x4096x2048, .f32⟩
  | .hbm, ⟨79, _⟩ => ⟨S2x4096x2048, .f32⟩
  | .hbm, ⟨80, _⟩ => ⟨S2x4096x2048, .f32⟩
  | .hbm, ⟨81, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_values : Ref sig .tc := ⟨.hbm, 30, rfl⟩
abbrev main_indices : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_c : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Proof.Frames.lean ====
/- The frames of the kernel, of its idealization and of the reference. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tame

@[expose] public section

noncomputable section

namespace Cert.Proof

open Idealize.ShloMosaic Idealize.SL.Sem

/-- The kernel terminates from any memory, leaves its arguments as launched and every semaphore counter at zero. -/
theorem frame_p : Cert.quiescent_Kernel := fun m ρ _ => Cert.Kernel.Gen.frame m ρ

/-- The same of the kernel over the extended reals. -/
theorem frame_pi : Cert.quiescent_KernelIdeal := fun m ρ _ => Cert.KernelIdeal.Gen.frame m ρ

/-- The same of the reference, which declares no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's frame over the extended reals, from the memories the value claim is about. -/
theorem frame_pi_pre : Cert.quiescent_KernelIdeal_pre_tame := fun m ρ _ => Cert.KernelIdeal.Gen.frame m ρ

/-- The reference's frame from the same memories. -/
theorem frame_ri_pre : Cert.quiescent_ReferenceIdeal_pre_tame := fun m ρ _ => frame_ri m ρ trivial

end Cert.Proof

end
-- ==== Proof.Region0.lean ====
/- The first region's two result arrays, from the six arrays it finds. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Dna

open Idealize.ShloMosaic Idealize.ShloMosaic.TcCoe Cert.KernelIdeal Cert.KernelIdeal.Gen
open Idealize.ShloMosaic.Pipeline (Dat)
open scoped BigOperators

variable (V : (c : Dev nD) → (b : Ref sig .tc) → Buf (Elt Ideal) ((c : Thread nD τ).loc b))

/-- The folded router weights: each column times its root-mean-square weight over the temperature. -/
def fold6 (p : FVec Ideal S2 .f32) (wc : FVec Ideal S64x2048 .f32) (rw : FVec Ideal S1x2048 .f32) : FVec Ideal S64x2048 .f32 :=
  fun i => wc (ix2 (i 0) (i 1)) * (rw (ix2 0 (i 1)) * p (ix1 0))

/-- The gate table, and the up table with its weight and scale. -/
def fold7 (p : FVec Ideal S2 .f32) (ge : FVec Ideal S64x1024 .f32) (wd wu : FVec Ideal S2048x1024 .f32) (rw : FVec Ideal S1x2048 .f32) : FVec Ideal S64x4096 .f32 :=
  fun i => if h : (i 1).val < 2048 then ∑ k : Fin 1024, ge (ix2 (i 0) k) * wd (ix2 ⟨(i 1).val, h⟩ k)
    else (∑ k : Fin 1024, ge (ix2 (i 0) k) * wu (ix2 ⟨(i 1).val - 2048, by have : (i 1).val < 4096 := (i 1).isLt; omega⟩ k))
      * (rw (ix2 0 ⟨(i 1).val - 2048, by have : (i 1).val < 4096 := (i 1).isLt; omega⟩) * p (ix1 1))

theorem fold6_at (p : FVec Ideal S2 .f32) (wc : FVec Ideal S64x2048 .f32) (rw : FVec Ideal S1x2048 .f32) (g : Fin 64) (d : Fin 2048) :
    fold6 p wc rw (ix2 g d) = wc (ix2 g d) * (rw (ix2 0 d) * p (ix1 0)) := rfl

/-- The gate half of the table. -/
theorem fold7_lo (p : FVec Ideal S2 .f32) (ge : FVec Ideal S64x1024 .f32) (wd wu : FVec Ideal S2048x1024 .f32) (rw : FVec Ideal S1x2048 .f32)
    (g : Fin 64) (j : Fin 4096) (d : Fin 2048) (h : j.val = d.val) :
    fold7 p ge wd wu rw (ix2 g j) = ∑ k : Fin 1024, ge (ix2 g k) * wd (ix2 d k) := by
  have hd : (⟨j.val, by omega⟩ : Fin 2048) = d := Fin.ext h
  show (if h : j.val < 2048 then ∑ k : Fin 1024, ge (ix2 g k) * wd (ix2 ⟨j.val, h⟩ k) else _) = _
  rw [dif_pos (show j.val < 2048 by omega), hd]

/-- The up half of the table. -/
theorem fold7_hi (p : FVec Ideal S2 .f32) (ge : FVec Ideal S64x1024 .f32) (wd wu : FVec Ideal S2048x1024 .f32) (rw : FVec Ideal S1x2048 .f32)
    (g : Fin 64) (j : Fin 4096) (d : Fin 2048) (h : j.val = 2048 + d.val) :
    fold7 p ge wd wu rw (ix2 g j) = (∑ k : Fin 1024, ge (ix2 g k) * wu (ix2 d k)) * (rw (ix2 0 d) * p (ix1 1)) := by
  have hd : (⟨j.val - 2048, by omega⟩ : Fin 2048) = d := Fin.ext (by show j.val - 2048 = d.val; omega)
  show (if h : j.val < 2048 then ∑ k : Fin 1024, ge (ix2 g k) * wd (ix2 ⟨j.val, h⟩ k) else
    (∑ k : Fin 1024, ge (ix2 g k) * wu (ix2 ⟨j.val - 2048, _⟩ k)) * (rw (ix2 0 ⟨j.val - 2048, _⟩) * p (ix1 1))) = _
  rw [dif_neg (show ¬ j.val < 2048 by omega), hd]

theorem idx0 : ∀ t : Fin grid0.N, win0_0.index t = ![0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by
  decide +kernel

theorem in0 (c : Dev nD) (t : Fin cfg0.N) (r : Fin 2) :
    (iblk0 V c 0 t : FVec Ideal S2 .f32) (ix1 r) = (V c main_v5 : FVec Ideal S2 .f32) (ix1 r) := by
  blk_ext [iblk0, idx0 t]

theorem in1 (c : Dev nD) (t : Fin cfg0.N) (r : Fin 64) (d : Fin 1024) :
    (iblk0 V c 1 t : FVec Ideal S64x1024 .f32) (ix2 r d) = (V c main_arg3 : FVec Ideal S64x1024 .f32) (ix2 r d) := by
  blk_ext [iblk0, idx0 t]

theorem in2 (c : Dev nD) (t : Fin cfg0.N) (r : Fin 2048) (d : Fin 1024) :
    (iblk0 V c 2 t : FVec Ideal S2048x1024 .f32) (ix2 r d) = (V c main_arg4 : FVec Ideal S2048x1024 .f32) (ix2 r d) := by
  blk_ext [iblk0, idx0 t]

theorem in3 (c : Dev nD) (t : Fin cfg0.N) (r : Fin 2048) (d : Fin 1024) :
    (iblk0 V c 3 t : FVec Ideal S2048x1024 .f32) (ix2 r d) = (V c main_arg5 : FVec Ideal S2048x1024 .f32) (ix2 r d) := by
  blk_ext [iblk0, idx0 t]

theorem in4 (c : Dev nD) (t : Fin cfg0.N) (r : Fin 64) (d : Fin 2048) :
    (iblk0 V c 4 t : FVec Ideal S64x2048 .f32) (ix2 r d) = (V c main_arg1 : FVec Ideal S64x2048 .f32) (ix2 r d) := by
  blk_ext [iblk0, idx0 t]

theorem in5 (c : Dev nD) (t : Fin cfg0.N) (r : Fin 1) (d : Fin 2048) :
    (iblk0 V c 5 t : FVec Ideal S1x2048 .f32) (ix2 r d) = (V c main_v6 : FVec Ideal S1x2048 .f32) (ix2 r d) := by
  blk_ext [iblk0, idx0 t]

theorem pay2_0 (a : EReal) (x : Vec Ideal S1x2048 .f32) (w : Vec Ideal S64x2048 .f32) (g : Fin 64) (d : Fin 2048) :
    k0_pay2 (F := Ideal) a x w (ix2 g d) = w (ix2 g d) * (x (ix2 0 d) * a) := by
  pointwise [k0_pay2, k0_pay1]

theorem pay3_0 (ge : Vec Ideal S64x1024 .f32) (w : Vec Ideal S2048x1024 .f32) (g : Fin 64) (d : Fin 2048) :
    k0_pay3 ge w (ix2 g d) = ∑ k : Fin 1024, ge (ix2 g k) * w (ix2 d k) := by
  pointwise [k0_pay3]

theorem pay4_0 (a : EReal) (ge : Vec Ideal S64x1024 .f32) (x : Vec Ideal S1x2048 .f32) (w : Vec Ideal S2048x1024 .f32) (g : Fin 64) (d : Fin 2048) :
    k0_pay4 (F := Ideal) a ge x w (ix2 g d) = (∑ k : Fin 1024, ge (ix2 g k) * w (ix2 d k)) * (x (ix2 0 d) * a) := by
  pointwise [k0_pay4, k0_pay1]

/-- The first region leaves the folded router weights. -/
theorem region0_6 (c : Dev nD) : (dat0 V c).arrAt 6 cfg0.N = fold6 (V c main_v5) (V c main_arg1) (V c main_v6) := by
  refine (dat0 V c).arrAt_eq_of_covers 6 _ (by decide +kernel) fun t hf y => ?_
  blk_simp
  rw [after0_6]
  unfold outsAt0
  frame_out
  simp only [read_unread_whole]
  obtain ⟨r, d, rfl⟩ : ∃ (r : Fin 64) (d : Fin 2048), y = ix2 r d := ⟨y 0, y 1, eq_ix2 y⟩
  have e : (((View.whole main_v7_0).slice (win0_6.rect t)).emb (ix2 r d) : S64x2048.Idx) = ix2 r d := by
    blk_ext [idx0 t]
  rw [e]
  refine (pay2_0 _ _ _ r d).trans ?_
  refine Eq.trans ?_ (fold6_at _ _ _ r d).symm
  rw [in4, in5, ← in0 V c t]
  congr 2
  show iblk0 V c 0 t _ = iblk0 V c 0 t _; congr 1; funext a; fin_cases a; rfl

/-- The first region leaves the gate and up tables. -/
theorem region0_7 (c : Dev nD) : (dat0 V c).arrAt 7 cfg0.N = fold7 (V c main_v5) (V c main_arg3) (V c main_arg4) (V c main_arg5) (V c main_v6) := by
  refine (dat0 V c).arrAt_eq_of_covers 7 _ (by decide +kernel) fun t hf y => ?_
  blk_simp
  rw [after0_7]
  unfold outsAt0
  frame_out
  simp only [read_unread_whole]
  obtain ⟨r, d, rfl⟩ : ∃ (r : Fin 64) (d : Fin 4096), y = ix2 r d := ⟨y 0, y 1, eq_ix2 y⟩
  have e : (((View.whole main_v7_1).slice (win0_7.rect t)).emb (ix2 r d) : S64x4096.Idx) = ix2 r d := by
    blk_ext [idx0 t]
  rw [e]
  canon_tiles x h
  · obtain ⟨g, d', rfl⟩ : ∃ (g : Fin 64) (d' : Fin 2048), x = ix2 g d' := ⟨x 0, x 1, eq_ix2 x⟩
    obtain rfl : r = g := Fin.ext h0
    refine (pay4_0 _ _ _ _ r d').trans ?_
    refine Eq.trans ?_ (fold7_hi _ _ _ _ _ r d d' h1).symm
    simp only [in1, in3, in5]
    rw [← in0 V c t]
    congr 2
    show iblk0 V c 0 t _ = iblk0 V c 0 t _; congr 1; funext a; fin_cases a; rfl
  · obtain ⟨g, d', rfl⟩ : ∃ (g : Fin 64) (d' : Fin 2048), x = ix2 g d' := ⟨x 0, x 1, eq_ix2 x⟩
    obtain rfl : r = g := Fin.ext h0
    refine (pay3_0 _ _ r d').trans ?_
    refine Eq.trans ?_ (fold7_lo _ _ _ _ _ r d d' h1).symm
    simp only [in1, in2]

end Cert.Dna
-- ==== Proof.Select.lean ====
/- Eight rounds of "take the greatest, then remove it" against the first eight positions of a descending order, over the
   extended reals, and the softmax over what was selected. Nothing here names a program. -/
module

public import Idealize.ShloMosaic.PureOps.Ideal.Laws
public import Idealize.ShloMosaic.Lib.IdealHost

@[expose] public section

noncomputable section

namespace Cert.Dna

open Idealize.ShloMosaic
open scoped BigOperators

/-- The greatest of the 64 entries. -/
def mx (w : Fin 64 → EReal) : EReal := Finset.univ.sup w

/-- The entries before round `r`: each round replaces the greatest by -inf. -/
def wk (l : Fin 64 → EReal) : ℕ → Fin 64 → EReal
  | 0 => l
  | r + 1 => fun g => if wk l r g = mx (wk l r) then ⊥ else wk l r g

/-- What round `r` takes. -/
def pk (l : Fin 64 → EReal) (r : ℕ) (g : Fin 64) : Prop := wk l r g = mx (wk l r)

/-- What the eight rounds take. -/
def sel (l : Fin 64 → EReal) (g : Fin 64) : Prop := ∃ r, r < 8 ∧ pk l r g

open Classical in
/-- The exponential of a selected entry less the greatest, and zero elsewhere. -/
def ke (l : Fin 64 → EReal) (g : Fin 64) : EReal := if sel l g then Ideal.exp (l g - mx l) else 0

/-- The kernel's weight of entry `g`. -/
def kp (l : Fin 64 → EReal) (g : Fin 64) : EReal := Ideal.div (ke l g) (∑ g, ke l g)

/-- Position `k` of eight among 64. -/
abbrev pos (k : Fin 8) : Fin 64 := ⟨k.val, by omega⟩

/-- The reference's exponential of the `k`-th greatest entry less the greatest. -/
def re (v : Fin 8 → EReal) (k : Fin 8) : EReal := Ideal.exp (v k - Finset.univ.sup v)

/-- The reference's softmax over the eight greatest. -/
def rp (v : Fin 8 → EReal) (k : Fin 8) : EReal := Ideal.div (re v k) (∑ k, re v k)

/-- `o` lists the entries of `l` in descending order, the first eight strictly above everything after them, and the
    greatest is below +inf. -/
structure Order (l : Fin 64 → EReal) (o : Fin 64 → Fin 64) : Prop where
  inj : Function.Injective o
  le : ∀ i j, i < j → l (o j) ≤ l (o i)
  lt : ∀ i j : Fin 64, i.val < 8 → i < j → l (o j) < l (o i)
  top : l (o 0) < ⊤

variable {l : Fin 64 → EReal} {o : Fin 64 → Fin 64}

theorem Order.surj (h : Order l o) : Function.Surjective o := Finite.surjective_of_injective h.inj

theorem mx_eq {w : Fin 64 → EReal} {g : Fin 64} (h : ∀ g', w g' ≤ w g) : mx w = w g :=
  le_antisymm (Finset.sup_le fun g' _ => h g') (Finset.le_sup (f := w) (Finset.mem_univ g))

/-- If before round `r` the first `r` entries of the order are at -inf and the others as they were, the greatest is entry `r`. -/
theorem Order.mx_of (h : Order l o) (r : ℕ) (hr : r < 8) (ih : ∀ i : Fin 64, wk l r (o i) = if i.val < r then ⊥ else l (o i)) :
    mx (wk l r) = l (o ⟨r, by omega⟩) := by
  have e : wk l r (o ⟨r, by omega⟩) = l (o ⟨r, by omega⟩) := by rw [ih, if_neg (Nat.lt_irrefl r)]
  rw [← e]
  refine Cert.Dna.mx_eq fun g' => ?_
  obtain ⟨j, rfl⟩ := h.surj g'
  rw [e, ih j]
  split
  · exact bot_le
  · next hj =>
    rcases Nat.lt_or_eq_of_le (Nat.le_of_not_lt hj) with hj | hj
    · exact h.le ⟨r, by omega⟩ j hj
    · subst hj; exact le_rfl

/-- Before round `r` (at most eight) the first `r` entries of the order are at -inf and the others as they were. -/
theorem Order.wk_eq (h : Order l o) : ∀ r, r ≤ 8 → ∀ i : Fin 64, wk l r (o i) = if i.val < r then ⊥ else l (o i) := by
  intro r
  induction r with
  | zero => intro _ i; simp [wk]
  | succ r ih =>
    intro hr i
    have ih := ih (by omega)
    have hm := h.mx_of r (by omega) ih
    show (if wk l r (o i) = mx (wk l r) then ⊥ else wk l r (o i)) = _
    rw [hm, ih i]
    rcases Nat.lt_trichotomy i.val r with hi | hi | hi
    · rw [if_pos hi, if_pos (show i.val < r + 1 by omega)]; exact ite_self _
    · rw [if_neg (show ¬ i.val < r by omega), if_pos (show i.val < r + 1 by omega), if_pos]
      subst hi; rfl
    · rw [if_neg (show ¬ i.val < r by omega), if_neg (show ¬ i.val < r + 1 by omega), if_neg]
      exact ne_of_lt (h.lt ⟨r, by omega⟩ i (by show r < 8; omega) hi)

/-- The greatest before round `r` is the order's entry `r`. -/
theorem Order.mx_wk (h : Order l o) (r : ℕ) (hr : r < 8) : mx (wk l r) = l (o ⟨r, by omega⟩) :=
  h.mx_of r hr (h.wk_eq r (by omega))

/-- Round `r` takes the order's entry `r` and nothing else. -/
theorem Order.pk_iff (h : Order l o) (r : ℕ) (hr : r < 8) (i : Fin 64) : pk l r (o i) ↔ i.val = r := by
  unfold pk
  rw [h.mx_wk r hr, h.wk_eq r (by omega)]
  constructor
  · intro e
    rcases Nat.lt_trichotomy i.val r with hi | hi | hi
    · rw [if_pos hi] at e
      have := h.lt ⟨r, by omega⟩ ⟨r + 1, by omega⟩ hr (show r < r + 1 by omega)
      rw [← e] at this
      exact absurd this not_lt_bot
    · exact hi
    · rw [if_neg (show ¬ i.val < r by omega)] at e
      exact absurd e (ne_of_lt (h.lt ⟨r, by omega⟩ i hr hi))
  · intro e
    rw [if_neg (show ¬ i.val < r by omega)]
    subst e; rfl

/-- The rounds take the first eight entries of the order. -/
theorem Order.sel_iff (h : Order l o) (i : Fin 64) : sel l (o i) ↔ i.val < 8 := by
  constructor
  · rintro ⟨r, hr, hp⟩
    have := (h.pk_iff r hr i).1 hp
    omega
  · intro hi
    exact ⟨i.val, hi, (h.pk_iff _ hi i).2 rfl⟩

theorem Order.mx_eq (h : Order l o) : mx l = l (o 0) := h.mx_wk 0 (by omega)

/-- The first eight entries are real numbers. -/
theorem Order.real (h : Order l o) (k : Fin 8) : ∃ r : ℝ, l (o (pos k)) = r := by
  have h1 : l (o (pos k)) ≠ ⊥ := fun e => by
    have := h.lt (pos k) ⟨8, by omega⟩ k.isLt (show k.val < 8 from k.isLt)
    rw [e] at this
    exact not_lt_bot this
  have h2 : l (o (pos k)) ≠ ⊤ := by
    rcases Nat.eq_zero_or_pos k.val with hk | hk
    · have : pos k = 0 := Fin.ext hk
      rw [this]; exact h.top.ne
    · exact (lt_of_le_of_lt (h.le 0 (pos k) (show (0:ℕ) < k.val from hk)) h.top).ne
  exact ⟨_, (EReal.coe_toReal h2 h1).symm⟩

theorem Order.sup_eq (h : Order l o) : Finset.univ.sup (fun k => l (o (pos k))) = l (o 0) := by
  apply le_antisymm
  · refine Finset.sup_le fun k _ => ?_
    rcases Nat.eq_zero_or_pos k.val with hk | hk
    · have : pos k = 0 := Fin.ext hk
      rw [this]
    · exact h.le 0 (pos k) (show (0:ℕ) < k.val from hk)
  · exact Finset.le_sup (f := fun k => l (o (pos k))) (Finset.mem_univ (0 : Fin 8))

/-- A selected entry's exponential is the reference's. -/
theorem Order.ke_pos (h : Order l o) (k : Fin 8) : ke l (o (pos k)) = re (fun k => l (o (pos k))) k := by
  unfold ke re
  rw [if_pos ((h.sel_iff _).2 k.isLt), h.mx_eq, h.sup_eq]

theorem Order.ke_not (h : Order l o) {i : Fin 64} (hi : ¬ i.val < 8) : ke l (o i) = 0 := by
  unfold ke
  rw [if_neg fun e => hi ((h.sel_iff _).1 e)]

/-- The exponentials sum alike over the 64 entries and over the eight greatest. -/
theorem Order.sum_eq (h : Order l o) : ∑ g, ke l g = ∑ k, re (fun k => l (o (pos k))) k := by
  rw [← Function.Bijective.sum_comp ⟨h.inj, h.surj⟩ (ke l)]
  rw [show (∑ k, re (fun k => l (o (pos k))) k) = ∑ k : Fin 8, ke l (o (pos k)) from
    Finset.sum_congr rfl fun k _ => (h.ke_pos k).symm]
  have e : ∀ i ∈ (Finset.univ : Finset (Fin 64)), i ∉ Finset.univ.image pos → ke l (o i) = 0 := by
    intro i _ hi
    refine h.ke_not fun hi' => hi ?_
    exact Finset.mem_image.2 ⟨⟨i.val, hi'⟩, Finset.mem_univ _, rfl⟩
  rw [← Finset.sum_subset (Finset.subset_univ (Finset.univ.image pos)) e,
    Finset.sum_image fun a _ b _ e => Fin.ext (by simpa [pos] using e)]

/-- The exponentials of the eight are positive real numbers, and so is their sum. -/
theorem Order.re_real (h : Order l o) (k : Fin 8) : ∃ r : ℝ, 0 < r ∧ re (fun k => l (o (pos k))) k = r := by
  obtain ⟨a, ha⟩ := h.real k
  obtain ⟨b, hb⟩ := h.real 0
  have hb : l (o 0) = b := hb
  refine ⟨Real.exp (a - b), Real.exp_pos _, ?_⟩
  unfold re
  rw [h.sup_eq]
  show Ideal.exp (l (o (pos k)) - l (o 0)) = _
  rw [ha, hb, ← EReal.coe_sub, Ideal.exp_coe]

/-- A finite sum of real numbers, among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Order.sum_real (h : Order l o) : ∃ r : ℝ, 0 < r ∧ ∑ k, re (fun k => l (o (pos k))) k = r := by
  choose f hf hr using h.re_real
  refine ⟨∑ k, f k, Finset.sum_pos (fun k _ => hf k) Finset.univ_nonempty, ?_⟩
  rw [coe_sum]
  exact Finset.sum_congr rfl fun k _ => hr k

/-- The kernel's weight at the `k`-th greatest entry is the reference's softmax at `k`. -/
theorem Order.kp_pos (h : Order l o) (k : Fin 8) : kp l (o (pos k)) = rp (fun k => l (o (pos k))) k := by
  unfold kp rp
  rw [h.ke_pos, h.sum_eq]

/-- The kernel's weight is zero away from the eight greatest. -/
theorem Order.kp_not (h : Order l o) {i : Fin 64} (hi : ¬ i.val < 8) : kp l (o i) = 0 := by
  unfold kp
  obtain ⟨s, hs, e⟩ := h.sum_real
  rw [h.ke_not hi, h.sum_eq, e]
  exact Ideal.zero_div (by exact_mod_cast hs.ne')

/-- Every weight is a real number. -/
theorem Order.kp_real (h : Order l o) (g : Fin 64) : ∃ r : ℝ, kp l g = r := by
  obtain ⟨i, rfl⟩ := h.surj g
  by_cases hi : i.val < 8
  · obtain ⟨s, hs, e⟩ := h.sum_real
    obtain ⟨a, ha, e'⟩ := h.re_real ⟨i.val, hi⟩
    refine ⟨a * s⁻¹, ?_⟩
    have := h.kp_pos ⟨i.val, hi⟩
    rw [show i = pos ⟨i.val, hi⟩ from rfl, this]
    unfold rp
    rw [e', e]
    unfold Ideal.div
    rw [if_neg (by exact_mod_cast hs.ne')]
    rw [EReal.coe_mul, EReal.coe_inv]
  · exact ⟨0, by rw [h.kp_not hi]; rfl⟩

end Cert.Dna

end
-- ==== Proof.Rounds.lean ====
/- One grid point of the kernel's second region, read at an index at the exact instance: the router's logits, the eight
   rounds, the weights, and the products stored. -/
module

public import proofs.«01_k».proof.Proof.Gen.KernelIdeal.Skeleton
public import proofs.«01_k».proof.Proof.Select
public import Idealize.ShloMosaic.Lib.Pointwise

@[expose] public section

set_option maxRecDepth 16384

noncomputable section

namespace Cert.Dna

open Idealize.ShloMosaic Cert.KernelIdeal Cert.KernelIdeal.Gen
open scoped BigOperators

/-- The reciprocal root mean square of a row of 2048 entries. -/
def rinv (x : Fin 2048 → EReal) : EReal :=
  Ideal.rsqrt (Ideal.div (∑ d, x d * x d) (Ideal.ofBits .f32 0x45000000#32) + Ideal.ofBits .f32 0x358637BD#32)

/-- A row divided by its root mean square. -/
def nrm (x : Fin 2048 → EReal) (d : Fin 2048) : EReal := x d * rinv x

/-- The kernel's logit of one gene: the folded router weights times the normalized row. -/
def klg (wc2 : Fin 64 → Fin 2048 → EReal) (x : Fin 2048 → EReal) (g : Fin 64) : EReal := ∑ d, wc2 g d * nrm x d

/-- What the kernel stores at one token and one column: gate times normalized row times up. -/
def kout (wc2 : Fin 64 → Fin 2048 → EReal) (gd gu : Fin 64 → Fin 2048 → EReal) (x : Fin 2048 → EReal) (d : Fin 2048) : EReal :=
  (Ideal.tanh (∑ g, kp (klg wc2 x) g * gd g d) * nrm x d) * ∑ g, kp (klg wc2 x) g * gu g d

theorem pay2_at (x : Vec Ideal S1024x2048 .f32) (r : Fin 1024) (d : Fin 2048) :
    k1_pay2 x (ix2 r d) = nrm (fun d => x (ix2 r d)) d := by
  pointwise [k1_pay2, nrm, rinv]

theorem pay3_at (x : Vec Ideal S1024x2048 .f32) (w : Vec Ideal S64x2048 .f32) (g : Fin 64) (r : Fin 1024) :
    k1_pay3 x w (ix2 g r) = klg (fun g d => w (ix2 g d)) (fun d => x (ix2 r d)) g := by
  pointwise [k1_pay3]
  simp only [pay2_at, klg]

/-- The pattern of -inf is -inf. -/
theorem ofBits_ninf : Ideal.ofBits .f32 0xFF800000#32 = ⊥ := by simp [Ideal.ofBits, Ideal.ieee]

/-- A column's greatest, put back over the rows. -/
def top (s : FVec Ideal S64x1024 .f32) : FVec Ideal S64x1024 .f32 :=
  broadcastTo S64x1024 (shapeCast S1x1024 (multiReduction .maximumf [0] S1024 s 0xFF800000#32 reduces_S64x1024_S1024 (.inl rfl) rfl) shapeCasts_S1024_S1x1024) broadcasts_S1x1024_S64x1024

theorem top_at (s : FVec Ideal S64x1024 .f32) (g : Fin 64) (r : Fin 1024) :
    top s (ix2 g r) = mx (fun g => s (ix2 g r)) := by
  pointwise [top, mx]
  rw [ofBits_ninf]
  rfl

/-- Where a column's greatest stands. -/
def hit (s : FVec Ideal S64x1024 .f32) : IVec S64x1024 1 := cmpf .oeq s (top s)

/-- A round: the greatest replaced by -inf. -/
def step (s : FVec Ideal S64x1024 .f32) : FVec Ideal S64x1024 .f32 :=
  select (hit s) (broadcast S64x1024 (Scalar.ofBits .f32 0xFF800000#32)) s

/-- The entries before round `n`. -/
def rnd (s : FVec Ideal S64x1024 .f32) : ℕ → FVec Ideal S64x1024 .f32
  | 0 => s
  | n + 1 => step (rnd s n)

/-- What the first `n` rounds took. -/
def took (s : FVec Ideal S64x1024 .f32) : ℕ → IVec S64x1024 1
  | 0 => broadcast S64x1024 0#1
  | n + 1 => ori (took s n) (hit (rnd s n))

theorem rnd_at (s : FVec Ideal S64x1024 .f32) (r : Fin 1024) (n : ℕ) :
    (fun g : Fin 64 => rnd s n (ix2 g r)) = wk (fun g => s (ix2 g r)) n := by
  induction n with
  | zero => rfl
  | succ n ih =>
    funext g
    have h : rnd s n (ix2 g r) = wk (fun g => s (ix2 g r)) n g := congrFun ih g
    show step (rnd s n) (ix2 g r) = if wk (fun g => s (ix2 g r)) n g = mx (wk (fun g => s (ix2 g r)) n) then ⊥ else wk (fun g => s (ix2 g r)) n g
    pointwise [step, hit]
    rw [top_at, ih, h, ofBits_ninf]

theorem hit_at (s : FVec Ideal S64x1024 .f32) (g : Fin 64) (r : Fin 1024) (n : ℕ) :
    hit (rnd s n) (ix2 g r) = 1#1 ↔ pk (fun g => s (ix2 g r)) n g := by
  have h : rnd s n (ix2 g r) = wk (fun g => s (ix2 g r)) n g := congrFun (rnd_at s r n) g
  pointwise [hit]
  rw [top_at, rnd_at, h]
  unfold pk
  by_cases e : wk (fun g => s (ix2 g r)) n g = mx (wk (fun g => s (ix2 g r)) n) <;> simp [e]

theorem took_at (s : FVec Ideal S64x1024 .f32) (g : Fin 64) (r : Fin 1024) (n : ℕ) :
    took s n (ix2 g r) = 1#1 ↔ ∃ k, k < n ∧ pk (fun g => s (ix2 g r)) k g := by
  induction n with
  | zero =>
    have e : took s 0 (ix2 g r) = 0#1 := rfl
    rw [e]; simp
  | succ n ih =>
    have e : took s (n + 1) (ix2 g r) = took s n (ix2 g r) ||| hit (rnd s n) (ix2 g r) := rfl
    have b : ∀ x y : BitVec 1, x ||| y = 1#1 ↔ x = 1#1 ∨ y = 1#1 := by decide
    rw [e, b, ih, hit_at]
    constructor
    · rintro (⟨k, hk, h⟩ | h)
      · exact ⟨k, by omega, h⟩
      · exact ⟨n, by omega, h⟩
    · rintro ⟨k, hk, h⟩
      rcases Nat.lt_succ_iff_lt_or_eq.1 hk with hk | rfl
      · exact .inl ⟨k, hk, h⟩
      · exact .inr h

/-- The exponentials of what was taken, zero elsewhere. -/
def exps (s : FVec Ideal S64x1024 .f32) : FVec Ideal S64x1024 .f32 :=
  select (took s 8) (exp (subf s (top s))) (broadcast S64x1024 (Scalar.ofBits .f32 0x00000000#32))

theorem exps_at (s : FVec Ideal S64x1024 .f32) (g : Fin 64) (r : Fin 1024) :
    exps s (ix2 g r) = ke (fun g => s (ix2 g r)) g := by
  have h := took_at s g r 8
  pointwise [exps]
  unfold ke sel
  rw [top_at]
  by_cases e : took s 8 (ix2 g r) = 1#1
  · rw [e, if_pos (h.1 e)]; rfl
  · rw [if_neg (mt h.2 e)]
    have : took s 8 (ix2 g r) = 0#1 := by
      have b : ∀ x : BitVec 1, ¬ x = 1#1 → x = 0#1 := by decide
      exact b _ e
    rw [this]; rfl

/-- The weights. -/
def wts (s : FVec Ideal S64x1024 .f32) : FVec Ideal S64x1024 .f32 :=
  divf (exps s) (broadcastTo S64x1024 (shapeCast S1x1024 (multiReduction .add [0] S1024 (exps s) 0x00000000#32 reduces_S64x1024_S1024 (.inl rfl) rfl) shapeCasts_S1024_S1x1024) broadcasts_S1x1024_S64x1024)

theorem wts_at (s : FVec Ideal S64x1024 .f32) (g : Fin 64) (r : Fin 1024) :
    wts s (ix2 g r) = kp (fun g => s (ix2 g r)) g := by
  pointwise [wts]
  unfold kp
  simp only [exps_at]

/-- What the second region stores at one point, from the blocks it loads. -/
def stored (x : Vec Ideal S1024x2048 .f32) (w : Vec Ideal S64x2048 .f32) (gdu : Vec Ideal S64x4096 .f32) : FVec Ideal S1024x2048 .f32 :=
  k1_pay13 (k1_pay1 gdu) (k1_pay2 x) (k1_pay3 x w) (k1_pay4 x w) (k1_pay10 x w) (k1_pay11 x w) (k1_pay12 x w)

/-- The gate and up products of the weights. -/
def prods (x : Vec Ideal S1024x2048 .f32) (w : Vec Ideal S64x2048 .f32) (gdu : Vec Ideal S64x4096 .f32) : FVec Ideal S1024x4096 .f32 :=
  matmul dot_S64x1024_S64x4096_S1024x4096_0_0_1_1_n_n none (wts (k1_pay3 x w)) (k1_pay1 gdu) (constant S1024x4096 .f32 0x00000000#32)

theorem stored_eq (x : Vec Ideal S1024x2048 .f32) (w : Vec Ideal S64x2048 .f32) (gdu : Vec Ideal S64x4096 .f32) :
    stored x w gdu = mulf (mulf (tanh (extractStridedSlice S1024x2048 ![0, 0] (prods x w gdu) slices_S1024x4096_o0_0_S1024x2048)) (k1_pay2 x))
      (extractStridedSlice S1024x2048 ![0, 2048] (prods x w gdu) slices_S1024x4096_o0_2048_S1024x2048) := rfl

theorem prods_at (x : Vec Ideal S1024x2048 .f32) (w : Vec Ideal S64x2048 .f32) (gdu : Vec Ideal S64x4096 .f32) (r : Fin 1024) (d : Fin 4096) :
    prods x w gdu (ix2 r d) = ∑ g, kp (klg (fun g d => w (ix2 g d)) (fun d => x (ix2 r d))) g * gdu (ix2 g d) := by
  have e : (fun g => k1_pay3 x w (ix2 g r)) = klg (fun g d => w (ix2 g d)) (fun d => x (ix2 r d)) := funext fun g => pay3_at x w g r
  pointwise [prods, k1_pay1]
  simp only [wts_at, e]

theorem stored_at (x : Vec Ideal S1024x2048 .f32) (w : Vec Ideal S64x2048 .f32) (gdu : Vec Ideal S64x4096 .f32) (r : Fin 1024) (d : Fin 2048) :
    stored x w gdu (ix2 r d) = kout (fun g d => w (ix2 g d)) (fun g d => gdu (ix2 g ⟨d.val, by omega⟩))
      (fun g d => gdu (ix2 g ⟨2048 + d.val, by omega⟩)) (fun d => x (ix2 r d)) d := by
  rw [stored_eq]
  pointwise
  simp only [prods_at, pay2_at]
  rfl

end Cert.Dna
-- ==== Proof.Region1.lean ====
/- The second region's result array, from the three arrays the region finds. -/
module

public import proofs.«01_k».proof.Proof.Gen.KernelIdeal.Frame
public import proofs.«01_k».proof.Proof.Rounds
public import Idealize.ShloMosaic.Lib.Pipeline.ValueKit

@[expose] public section

set_option maxRecDepth 16384

noncomputable section

namespace Cert.Dna

open Idealize.ShloMosaic Idealize.ShloMosaic.TcCoe Cert.KernelIdeal Cert.KernelIdeal.Gen
open Idealize.ShloMosaic.Pipeline (Dat)
open scoped BigOperators

variable (V : (c : Dev nD) → (b : Ref sig .tc) → Buf (Elt Ideal) ((c : Thread nD τ).loc b))

/-- The second region's array from the flattened input, the folded router weights and the folded gate and up tables. -/
def flat (xf : FVec Ideal S8192x2048 .f32) (wc2 : FVec Ideal S64x2048 .f32) (gdu : FVec Ideal S64x4096 .f32) : FVec Ideal S8192x2048 .f32 :=
  fun i => kout (fun g d => wc2 (ix2 g d)) (fun g d => gdu (ix2 g ⟨d.val, by omega⟩))
      (fun g d => gdu (ix2 g ⟨2048 + d.val, by omega⟩)) (fun d => xf (ix2 (i 0) d)) (i 1)

theorem idx1 : ∀ t : Fin grid1.N, win1_0.index t = ![t.val, 0] ∧ win1_1.index t = ![0, 0] ∧ win1_2.index t = ![0, 0] ∧ win1_3.index t = ![t.val, 0] := by
  decide +kernel

theorem row_lt (t : Fin cfg1.N) (r : Fin 1024) : t.val * 1024 + r.val < 8192 := by
  have : cfg1.N = 8 := N_1
  omega

theorem blk0 (c : Dev nD) (t : Fin cfg1.N) (r : Fin 1024) (d : Fin 2048) :
    (iblk1 V c 0 t : FVec Ideal S1024x2048 .f32) (ix2 r d) = (V c main_v0 : FVec Ideal S8192x2048 .f32) (ix2 ⟨t.val * 1024 + r.val, row_lt t r⟩ d) := by
  blk_ext [iblk1, idx1 t]

theorem blk1 (c : Dev nD) (t : Fin cfg1.N) (r : Fin 64) (d : Fin 2048) :
    (iblk1 V c 1 t : FVec Ideal S64x2048 .f32) (ix2 r d) = (V c main_v7_0 : FVec Ideal S64x2048 .f32) (ix2 r d) := by
  blk_ext [iblk1, idx1 t]

theorem blk2 (c : Dev nD) (t : Fin cfg1.N) (r : Fin 64) (d : Fin 4096) :
    (iblk1 V c 2 t : FVec Ideal S64x4096 .f32) (ix2 r d) = (V c main_v7_1 : FVec Ideal S64x4096 .f32) (ix2 r d) := by
  blk_ext [iblk1, idx1 t]

/-- The second region leaves `flat` of the arrays it finds. -/
theorem region1 (c : Dev nD) : (dat1 V c).arrAt 3 cfg1.N = flat (V c main_v0) (V c main_v7_0) (V c main_v7_1) := by
  refine (dat1 V c).arrAt_eq_of_covers 3 _ (by decide +kernel) fun t hf y => ?_
  blk_simp
  rw [after1_3]
  frame_out
  obtain ⟨r, d, rfl⟩ : ∃ (r : Fin 1024) (d : Fin 2048), y = ix2 r d := ⟨y 0, y 1, eq_ix2 y⟩
  have e : (((View.whole main_v8).slice (win1_3.rect t)).emb (ix2 r d) : S8192x2048.Idx) = ix2 ⟨t.val * 1024 + r.val, row_lt t r⟩ d := by
    blk_ext [idx1 t]
  refine (stored_at (iblk1 V c 0 t) (iblk1 V c 1 t) (iblk1 V c 2 t) r d).trans ?_
  rw [e]
  simp only [blk0, blk1, blk2]
  rfl

end Cert.Dna
-- ==== Proof.KernelRun.lean ====
/- The kernel's run: its result array as a function of its arguments. -/
module

public import proofs.«01_k».proof.Proof.Region0
public import proofs.«01_k».proof.Proof.Region1
public import Idealize.ShloMosaic.Lib.StableHlo.ReadAt

@[expose] public section

set_option maxRecDepth 16384

noncomputable section

namespace Cert.Dna

open Idealize.ShloMosaic Idealize.ShloMosaic.TcCoe Cert.KernelIdeal Cert.KernelIdeal.Gen
open Idealize.ShloMosaic.Pipeline (Dat)
open scoped BigOperators

variable (m : (ℓ : Loc nD τ sig) → Buf (Elt Ideal) ℓ) (ρ : Dev nD → PrngReg)

theorem entry_v0 (c : Dev nD) (i : Fin 8192) (d : Fin 2048) : (V1 m ρ c main_v0 : FVec Ideal S8192x2048 .f32) (ix2 i d) =
    (m ((c : Thread nD τ).loc main_arg0) : FVec Ideal S2x4096x2048 .f32) (ix3 ⟨i.val / 4096, by omega⟩ ⟨i.val % 4096, by omega⟩ d) := by
  unfold V1 W1 hostOps0
  after_reads_at

theorem entry_v5_0 (c : Dev nD) : (V1 m ρ c main_v5 : FVec Ideal S2 .f32) (ix1 0) =
    Ideal.div 1 (max ((m ((c : Thread nD τ).loc main_arg2) : FVec Ideal S_ .f32) ix0) (Ideal.ofBits .f32 0x3DCCCCCD#32)) := by
  unfold V1 W1 hostOps0
  after_reads_at

theorem entry_v5_1 (c : Dev nD) : (V1 m ρ c main_v5 : FVec Ideal S2 .f32) (ix1 1) =
    (m ((c : Thread nD τ).loc main_arg7) : FVec Ideal S_ .f32) ix0 := by
  unfold V1 W1 hostOps0
  after_reads_at

theorem entry_v6 (c : Dev nD) (d : Fin 2048) : (V1 m ρ c main_v6 : FVec Ideal S1x2048 .f32) (ix2 0 d) =
    (m ((c : Thread nD τ).loc main_arg6) : FVec Ideal S2048 .f32) (ix1 d) := by
  unfold V1 W1 hostOps0
  after_reads_at

theorem exit_v9 (c : Dev nD) (b : Fin 2) (s : Fin 4096) (d : Fin 2048) : (W4 m ρ c (Proc.devRef .tc main_v9) : FVec Ideal S2x4096x2048 .f32) (ix3 b s d) =
    (W3 m ρ c (Proc.devRef .tc main_v8) : FVec Ideal S8192x2048 .f32) (ix2 ⟨b.val * 4096 + s.val, by omega⟩ d) := by
  unfold W4 hostOps2
  after_reads_at

/-- The reciprocal of the floored temperature. -/
def tinv (t : EReal) : EReal := Ideal.div 1 (max t (Ideal.ofBits .f32 0x3DCCCCCD#32))

/-- The kernel's result at one token and one column, from the eight arguments. -/
def kval (x : FVec Ideal S2x4096x2048 .f32) (wc : FVec Ideal S64x2048 .f32) (te : FVec Ideal S_ .f32) (ge : FVec Ideal S64x1024 .f32)
    (wd wu : FVec Ideal S2048x1024 .f32) (rw : FVec Ideal S2048 .f32) (sc : FVec Ideal S_ .f32) (b : Fin 2) (s : Fin 4096) (d : Fin 2048) : EReal :=
  kout (fun g d => wc (ix2 g d) * (rw (ix1 d) * tinv (te ix0)))
    (fun g d => ∑ k : Fin 1024, ge (ix2 g k) * wd (ix2 d k))
    (fun g d => (∑ k : Fin 1024, ge (ix2 g k) * wu (ix2 d k)) * (rw (ix1 d) * sc ix0))
    (fun d => x (ix3 b s d)) d

theorem arg_in (c : Dev nD) (r : Ref sig .tc) (h : r ∉ hostOps0_W) : V1 m ρ c r = m ((c : Thread nD τ).loc r) := W1_of m ρ c r h

/-- The kernel's result array, at a token and a column. -/
theorem result_at (c : Dev nD) (b : Fin 2) (s : Fin 4096) (d : Fin 2048) :
    (W4 m ρ c (Proc.devRef .tc main_v9) : FVec Ideal S2x4096x2048 .f32) (ix3 b s d) =
      kval (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) b s d := by
  rw [exit_v9]
  have e8 : W3 m ρ c (Proc.devRef .tc main_v8) = flat (V2 m ρ c main_v0) (V2 m ρ c main_v7_0) (V2 m ρ c main_v7_1) :=
    (W3_arr m ρ c 3).trans (region1 (V2 m ρ) c)
  have e0 : V2 m ρ c main_v0 = V1 m ρ c main_v0 := W2_of m ρ c main_v0 (by decide)
  have e70 : V2 m ρ c main_v7_0 = fold6 (V1 m ρ c main_v5) (V1 m ρ c main_arg1) (V1 m ρ c main_v6) :=
    (W2_arr m ρ c 6).trans (region0_6 (V1 m ρ) c)
  have e71 : V2 m ρ c main_v7_1 = fold7 (V1 m ρ c main_v5) (V1 m ρ c main_arg3) (V1 m ρ c main_arg4) (V1 m ρ c main_arg5) (V1 m ρ c main_v6) :=
    (W2_arr m ρ c 7).trans (region0_7 (V1 m ρ) c)
  rw [e8, e0, e70, e71, arg_in m ρ c main_arg1 (by decide), arg_in m ρ c main_arg3 (by decide), arg_in m ρ c main_arg4 (by decide),
    arg_in m ρ c main_arg5 (by decide)]
  unfold kval
  show kout _ _ _ _ _ = _
  congr 1
  · funext g d
    rw [fold6_at, entry_v5_0, entry_v6]
    rfl
  · funext g d
    rw [fold7_lo _ _ _ _ _ g _ d rfl]
  · funext g d
    rw [fold7_hi _ _ _ _ _ g _ d rfl, entry_v5_1, entry_v6]
  · funext d
    refine (entry_v0 m ρ c _ d).trans ?_
    congr 2
    · exact Fin.ext (by show (b.val * 4096 + s.val) / 4096 = b.val; omega)
    · exact Fin.ext (by show (b.val * 4096 + s.val) % 4096 = s.val; omega)

end Cert.Dna
-- ==== Proof.KernelEnd.lean ====
/- Where every run of the kernel ends: the result array at the fold of the launch contents through the program, the
   arguments unchanged. -/
module

public import proofs.«01_k».proof.Proof.KernelRun

@[expose] public section

set_option maxRecDepth 16384

noncomputable section

namespace Cert.Dna

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen

-- the logic of this program's machine
local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run ends with every unscoped buffer of every core at its last contents. -/
theorem kernel_end : θ_run defs (onTc (τ := τ) (main (F := Ideal))) ⟨m, fun _ => 0, ρ⟩ fun r =>
    ∀ c : Dev nD, ∀ b ∈ Pipeline.ucRefs τ sig, r.2.mem ((c : Thread nD τ).1, b) = W4 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hcells
      imodintro
      isplitl [Hcells]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hcells
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun c => ?_⟩
      dsimp only [Pipeline.Seg.post, hseg, Pipeline.HostSeg.ofOps]
      iintro ⟨Hbufs, Hprng, Howed⟩
      isplitr [Howed]
      · isplitl [Hbufs] <;> iassumption
      · iexact Howed)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howed, -, Hprng, -⟩, -⟩
      imodintro
      isplitl [Hbufs]
      · iexact Hbufs
      · isplitl [Hprng]
        · iexists _; iexact Hprng
        · iexists ∅; iexact Howed)
    (QY := fun c s => ∀ b ∈ Pipeline.ucRefs τ sig, s.mem ((c : Thread nD τ).1, b) = W4 m ρ c b)
    (hfin := fun c s' => by
      iintro ⟨⟨Hbufs, -⟩, Hstate⟩
      unfold StableHlo.held
      imodintro
      iapply (pointsTo_read_all (Pipeline.ucRefs τ sig) (fun b => ((c : Thread nD τ).1, b)) (W4 m ρ c) s')
      isplitl [Hbufs] <;> iassumption)
    (hQ := fun _ h _ => h)

end Cert.Dna
-- ==== Proof.TopK.lean ====
/- The top-k of a row of 64 logits, read at an index over the extended reals: the row's entries in descending order. -/
module

public import proofs.«01_k».proof.Proof.Select
public import Idealize.ShloMosaic.Lib.Pointwise
public import Idealize.ShloMosaic.Lib.SortFacts

@[expose] public section

set_option maxRecDepth 16384

noncomputable section

namespace Cert.Dna

open Idealize.ShloMosaic

/-- Whether entry `i` sorts before entry `j`: it is the greater. -/
def before (l : Fin 64 → EReal) (i j : Fin 64) : Bool := FloatOps.cmpfTotal (F := Ideal) (φ := .f32) .gt (l i) (l j) == 1#1

/-- The positions of a row's entries, the greatest first, equal entries in their order. -/
def ord (l : Fin 64 → EReal) : Fin 64 → Fin 64 := sortedFrom (before l)

theorem before_iff (l : Fin 64 → EReal) (i j : Fin 64) : before l i j = true ↔ l j < l i := by
  have e : before l i j = (BitVec.ofBool (decide (l j < l i)) == 1#1) := rfl
  rw [e]
  by_cases h : l j < l i <;> simp [h]

theorem ord_inj (l : Fin 64 → EReal) : Function.Injective (ord l) := sortedFrom_injective _

/-- The order descends. -/
theorem ord_le (l : Fin 64 → EReal) (i j : Fin 64) (hij : i < j) : l (ord l j) ≤ l (ord l i) := by
  have h := sortedFrom_noInversion (before l) (before l)
    (fun a b h => by
      rw [Bool.eq_false_iff]; intro h'
      exact lt_asymm ((before_iff l a b).1 h) ((before_iff l b a).1 h'))
    (fun _ _ h => h)
    (fun a b c h1 h2 => by
      rw [Bool.eq_false_iff] at h1 h2 ⊢
      rw [ne_eq, before_iff, not_lt] at h1 h2 ⊢
      exact h1.trans h2) i j hij
  rw [Bool.eq_false_iff, ne_eq, before_iff, not_lt] at h
  exact h

/-- If each of the first eight stands strictly above its successor and the greatest is below +inf, the order separates
    the first eight strictly. -/
theorem ord_order (l : Fin 64 → EReal) (hs : ∀ k : Fin 8, l (ord l ⟨k.val + 1, by omega⟩) < l (ord l ⟨k.val, by omega⟩))
    (ht : l (ord l 0) < ⊤) : Order l (ord l) where
  inj := ord_inj l
  le := ord_le l
  lt := fun i j hi hij => by
    refine lt_of_le_of_lt ?_ (hs ⟨i.val, hi⟩)
    rcases Nat.lt_or_eq_of_le (show i.val + 1 ≤ j.val from hij) with h | h
    · exact ord_le l ⟨i.val + 1, by omega⟩ j h
    · rw [show (⟨i.val + 1, by omega⟩ : Fin 64) = j from Fin.ext h]
  top := ht

theorem along2 {A B C : ℕ} (j : (⟨3, ![A, B, C]⟩ : Shape).Idx) (k : Fin C) :
    j.along (2 : Fin 3) k = ix3 (j 0) (j 1) k := by
  unfold Shape.Idx.along
  funext a
  match a with
  | ⟨0, _⟩ => rfl
  | ⟨1, _⟩ => rfl
  | ⟨2, _⟩ => rfl

abbrev Rows (K : ℕ) : Shape := ⟨3, ![2, 4096, K]⟩

theorem sort_at (x : FVec Ideal (Rows 64) .f32) (y : IVec (Rows 64) 32) (a : Fin 2) (b : Fin 4096) (g : Fin 64) :
    (Host.sort2 (Rows 64) 2 (fun l r => FloatOps.cmpfTotal .gt l.1 r.1) x y).1 (ix3 a b g) =
        x (ix3 a b (ord (fun g => x (ix3 a b g)) g))
      ∧ (Host.sort2 (Rows 64) 2 (fun l r => FloatOps.cmpfTotal .gt l.1 r.1) x y).2 (ix3 a b g) =
        y (ix3 a b (ord (fun g => x (ix3 a b g)) g)) := by
  have e : (fun k k' : Fin 64 => FloatOps.cmpfTotal (F := Ideal) (φ := .f32) .gt (x ((ix3 a b g).along (2 : Fin 3) k)) (x ((ix3 a b g).along (2 : Fin 3) k')) == 1#1)
      = before (fun g => x (ix3 a b g)) := by
    funext k k'
    rw [along2, along2]
    rfl
  constructor
  · show x ((ix3 a b g).along (2 : Fin 3) (sortedFrom (fun k k' : Fin 64 => FloatOps.cmpfTotal (F := Ideal) (φ := .f32) .gt (x ((ix3 a b g).along (2 : Fin 3) k)) (x ((ix3 a b g).along (2 : Fin 3) k')) == 1#1) g)) = _
    rw [e]
    exact congrArg x (along2 (ix3 a b g) _)
  · show y ((ix3 a b g).along (2 : Fin 3) (sortedFrom (fun k k' : Fin 64 => FloatOps.cmpfTotal (F := Ideal) (φ := .f32) .gt (x ((ix3 a b g).along (2 : Fin 3) k)) (x ((ix3 a b g).along (2 : Fin 3) k')) == 1#1) g)) = _
    rw [e]
    exact congrArg y (along2 (ix3 a b g) _)

theorem slice_at {α : Type} {K : ℕ} (hK : K ≤ 64) (x : (Rows 64).Idx → α) (h : (Rows 64).Slices (fun _ => 0) (Rows K))
    (a : Fin 2) (b : Fin 4096) (k : Fin K) :
    extractStridedSlice (Rows K) (fun _ => 0) x h (ix3 a b k) = x (ix3 a b ⟨k.val, by omega⟩) := by
  unfold extractStridedSlice
  congr 1
  funext c
  match c with
  | ⟨0, _⟩ => exact Fin.ext (Nat.zero_add _)
  | ⟨1, _⟩ => exact Fin.ext (Nat.zero_add _)
  | ⟨2, _⟩ => exact Fin.ext (Nat.zero_add _)

/-- The values of the top-k: the row's entries, in order. -/
theorem topK_val {K : ℕ} (hK : K ≤ 64) (x : FVec Ideal (Rows 64) .f32) (h : (Rows 64).Slices (fun _ => 0) (Rows K))
    (a : Fin 2) (b : Fin 4096) (k : Fin K) :
    (Host.topK (Rows K) 2 (FloatOps.cmpfTotal .gt) x h).1 (ix3 a b k) =
      x (ix3 a b (ord (fun g => x (ix3 a b g)) ⟨k.val, by omega⟩)) :=
  (slice_at hK _ h a b k).trans (sort_at x (fun i => if hd : 2 < (Rows 64).rank then iotaInDim (Rows 64) 32 ⟨2, hd⟩ i else 0#32) a b _).1

/-- The indices of the top-k: the positions, as words. -/
theorem topK_idx {K : ℕ} (hK : K ≤ 64) (x : FVec Ideal (Rows 64) .f32) (h : (Rows 64).Slices (fun _ => 0) (Rows K))
    (a : Fin 2) (b : Fin 4096) (k : Fin K) :
    (Host.topK (Rows K) 2 (FloatOps.cmpfTotal .gt) x h).2 (ix3 a b k) =
      BitVec.ofNat 32 (ord (fun g => x (ix3 a b g)) ⟨k.val, by omega⟩).val :=
  (slice_at hK _ h a b k).trans (sort_at x (fun i => if hd : 2 < (Rows 64).rank then iotaInDim (Rows 64) 32 ⟨2, hd⟩ i else 0#32) a b _).2

end Cert.Dna

end
-- ==== Proof.Stages.lean ====
/- The reference's result, cut in named stages, each read at an index over the extended reals. -/
module

public import proofs.«01_k».proof.Proof.Gen.ReferenceIdeal.Run
public import proofs.«01_k».proof.Proof.Rounds
public import proofs.«01_k».proof.Proof.TopK
public import Idealize.ShloMosaic.Lib.Routing.OpsPair
public import Idealize.ShloMosaic.Lib.Routing.OpsSet

@[expose] public section

set_option maxRecDepth 16384

noncomputable section

namespace Cert.Dna.Ref

open Idealize.ShloMosaic Idealize.ShloMosaic.TcCoe Cert.ReferenceIdeal Cert.ReferenceIdeal.Gen
open scoped BigOperators

/-- The tokens, each divided by its root mean square and weighted. -/
def xn (x : FVec Ideal S2x4096x2048 .f32) (w : FVec Ideal S2048 .f32) : FVec Ideal S2x4096x2048 .f32 :=
  mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 w))

/-- The router's logits over the temperature. -/
def logits (xn : FVec Ideal S2x4096x2048 .f32) (wc : FVec Ideal S64x2048 .f32) (te : FVec Ideal S_ .f32) : FVec Ideal S2x4096x64 .f32 :=
  Host.divf (Host.dotGeneral dot_S2x4096x2048_S2048x64_S2x4096x64_2_0_01_1_n_n none xn (transpose S2048x64 [1, 0] wc transposes_S64x2048_S2048x64_1_0)) (broadcastInDim S2x4096x64 ![] bcast_S_S2x4096x64 (maximumf te (constant S_ .f32 0x3DCCCCCD#32)))

/-- The eight greatest logits of each token. -/
def vals (l : FVec Ideal S2x4096x64 .f32) : FVec Ideal S2x4096x8 .f32 :=
  (Host.topK S2x4096x8 2 (FloatOps.cmpfTotal .gt) l sliceFits_S2x4096x64_S2x4096x8).1

/-- Which genes they are of. -/
def inds (l : FVec Ideal S2x4096x64 .f32) : IVec S2x4096x8 32 :=
  (Host.topK S2x4096x8 2 (FloatOps.cmpfTotal .gt) l sliceFits_S2x4096x64_S2x4096x8).2

/-- The exponentials of the eight less the greatest. -/
def exps (v : FVec Ideal S2x4096x8 .f32) : FVec Ideal S2x4096x8 .f32 :=
  Host.exp (subf v (broadcastInDim S2x4096x8 ![0, 1, 2] bcast_S2x4096x1_S2x4096x8_0_1_2 (broadcastInDim S2x4096x1 ![0, 1] bcast_S2x4096_S2x4096x1_0_1 (maximumf (broadcastInDim S2x4096 ![] bcast_S_S2x4096 (constant S_ .f32 0xFF800000#32)) (Host.reduce FloatOps.maximumf v (constant S_ .f32 0xFF800000#32) reducesTo_S2x4096x8_S2x4096_d2 h_S_)))))

/-- Their softmax. -/
def probs (e : FVec Ideal S2x4096x8 .f32) : FVec Ideal S2x4096x8 .f32 :=
  Host.divf e (broadcastInDim S2x4096x8 ![0, 1, 2] bcast_S2x4096x1_S2x4096x8_0_1_2 (broadcastInDim S2x4096x1 ![0, 1] bcast_S2x4096_S2x4096x1_0_1 (Host.reduceAdd e (constant S_ .f32 0x00000000#32) reducesTo_S2x4096x8_S2x4096_d2 h_S_)))

/-- Where each of the eight is written: its token and its gene. -/
def place (i : IVec S2x4096x8 32) : IVec S8192x8x2 32 :=
  concatenate S8192x8x2 2 [⟨S8192x8x1, (broadcastInDim S8192x8x1 ![0, 1] bcast_S8192x8_S8192x8x1_0_1 (broadcastInDim S8192x8 ![0, 1] bcast_S8192x1_S8192x8_0_1 (select (cmpi .slt (broadcastInDim S8192x1 ![0] bcast_S8192_S8192x1_0 (iotaInDim S8192 32 0)) (broadcastInDim S8192x1 ![] bcast_S_S8192x1 (constantI S_ 32 0#32))) (addi (broadcastInDim S8192x1 ![0] bcast_S8192_S8192x1_0 (iotaInDim S8192 32 0)) (broadcastInDim S8192x1 ![] bcast_S_S8192x1 (constantI S_ 32 8192#32))) (broadcastInDim S8192x1 ![0] bcast_S8192_S8192x1_0 (iotaInDim S8192 32 0)))))⟩, ⟨S8192x8x1, (broadcastInDim S8192x8x1 ![0, 1] bcast_S8192x8_S8192x8x1_0_1 (select (cmpi .slt (shapeCast _ i shapeCasts_S2x4096x8_S8192x8) (broadcastInDim S8192x8 ![] bcast_S_S8192x8 (constantI S_ 32 0#32))) (addi (shapeCast _ i shapeCasts_S2x4096x8_S8192x8) (broadcastInDim S8192x8 ![] bcast_S_S8192x8 (constantI S_ 32 64#32))) (shapeCast _ i shapeCasts_S2x4096x8_S8192x8)))⟩] concatenates_S8192x8x1_S8192x8x1_S8192x8x2_d2

/-- The weights of all 64 genes, by flattened token: the eight written over zeros. -/
def spread (i : IVec S2x4096x8 32) (p : FVec Ideal S2x4096x8 .f32) : FVec Ideal S8192x64 .f32 :=
  Host.scatter scatter_S8192x64_S8192x8x2_S8192x8_n_01_01_2 (fun _ b => b) (broadcastInDim S8192x64 ![] bcast_S_S8192x64 (constant S_ .f32 0x00000000#32)) (place i) (shapeCast _ p shapeCasts_S2x4096x8_S8192x8)

/-- The mixture of the genes. -/
def mixed (s : FVec Ideal S8192x64 .f32) (ge : FVec Ideal S64x1024 .f32) : FVec Ideal S2x4096x1024 .f32 :=
  Host.dotGeneral dot_S2x4096x64_S64x1024_S2x4096x1024_2_0_01_1_n_n none (shapeCast _ s shapeCasts_S8192x64_S2x4096x64) ge

/-- Gate times normalized token times up, scaled. -/
def final (g : FVec Ideal S2x4096x1024 .f32) (xn : FVec Ideal S2x4096x2048 .f32) (wd wu : FVec Ideal S2048x1024 .f32) (sc : FVec Ideal S_ .f32) :
    FVec Ideal S2x4096x2048 .f32 :=
  mulf (mulf (mulf (Host.tanh (Host.dotGeneral dot_S2x4096x1024_S1024x2048_S2x4096x2048_2_0_01_1_n_n none g (transpose S1024x2048 [1, 0] wd transposes_S2048x1024_S1024x2048_1_0))) xn) (Host.dotGeneral dot_S2x4096x1024_S1024x2048_S2x4096x2048_2_0_01_1_n_n none g (transpose S1024x2048 [1, 0] wu transposes_S2048x1024_S1024x2048_1_0))) (broadcastInDim S2x4096x2048 ![] bcast_S_S2x4096x2048 sc)

/-- The reference's logits of its arguments. -/
def lg (x : FVec Ideal S2x4096x2048 .f32) (wc : FVec Ideal S64x2048 .f32) (te : FVec Ideal S_ .f32) (rw : FVec Ideal S2048 .f32) :
    FVec Ideal S2x4096x64 .f32 := logits (xn x rw) wc te

/-- The reference's result of its arguments. -/
def result (x : FVec Ideal S2x4096x2048 .f32) (wc : FVec Ideal S64x2048 .f32) (te : FVec Ideal S_ .f32) (ge : FVec Ideal S64x1024 .f32)
    (wd wu : FVec Ideal S2048x1024 .f32) (rw : FVec Ideal S2048 .f32) (sc : FVec Ideal S_ .f32) : FVec Ideal S2x4096x2048 .f32 :=
  final (mixed (spread (inds (lg x wc te rw)) (probs (exps (vals (lg x wc te rw))))) ge) (xn x rw) wd wu sc

/-- The run's composed term is the stages'. -/
theorem run_result (m : (ℓ : Loc nD τ sig) → Buf (Elt Ideal) ℓ) (c : Dev nD) :
    Cert.ReferenceIdeal.Value.res_main_v59 m c =
      result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  unfold Cert.ReferenceIdeal.Value.res_main_v59
  unfold result lg final mixed spread place probs exps vals inds logits xn
  rfl

theorem xn_at (x : FVec Ideal S2x4096x2048 .f32) (w : FVec Ideal S2048 .f32) (b : Fin 2) (s : Fin 4096) (d : Fin 2048) :
    xn x w (ix3 b s d) = nrm (fun d => x (ix3 b s d)) d * w (ix1 d) := by
  pointwise [xn, nrm, rinv]
  try simp only [zero_add]

theorem logits_at (xn : FVec Ideal S2x4096x2048 .f32) (wc : FVec Ideal S64x2048 .f32) (te : FVec Ideal S_ .f32) (b : Fin 2) (s : Fin 4096) (g : Fin 64) :
    logits xn wc te (ix3 b s g) = Ideal.div (∑ d, xn (ix3 b s d) * wc (ix2 g d)) (max (te ix0) (Ideal.ofBits .f32 0x3DCCCCCD#32)) := by
  pointwise [logits]

theorem vals_at (l : FVec Ideal S2x4096x64 .f32) (b : Fin 2) (s : Fin 4096) (k : Fin 8) :
    vals l (ix3 b s k) = l (ix3 b s (ord (fun g => l (ix3 b s g)) (pos k))) := topK_val (by omega) l _ b s k

theorem inds_at (l : FVec Ideal S2x4096x64 .f32) (b : Fin 2) (s : Fin 4096) (k : Fin 8) :
    inds l (ix3 b s k) = BitVec.ofNat 32 (ord (fun g => l (ix3 b s g)) (pos k)).val := topK_idx (by omega) l _ b s k

theorem exps_at (v : FVec Ideal S2x4096x8 .f32) (b : Fin 2) (s : Fin 4096) (k : Fin 8) :
    exps v (ix3 b s k) = re (fun k => v (ix3 b s k)) k := by
  pointwise [exps, re]
  rw [ofBits_ninf, max_eq_right bot_le]
  rfl

theorem probs_at (v : FVec Ideal S2x4096x8 .f32) (b : Fin 2) (s : Fin 4096) (k : Fin 8) :
    probs (exps v) (ix3 b s k) = rp (fun k => v (ix3 b s k)) k := by
  pointwise [probs, rp]
  simp only [exps_at]

theorem place_row (i : IVec S2x4096x8 32) (r : Fin 8192) (k : Fin 8) : place i (ix3 r k 0) = BitVec.ofNat 32 r.val := by
  pointwise [place]
  exact Routing.wrap_of_lt _ _ (by rw [BitVec.toNat_ofNat]; omega)

theorem place_col (i : IVec S2x4096x8 32) (r : Fin 8192) (k : Fin 8)
    (h : (i (ix3 ⟨r.val / 4096, by omega⟩ ⟨r.val % 4096, by omega⟩ k)).toNat < 64) :
    place i (ix3 r k 1) = i (ix3 ⟨r.val / 4096, by omega⟩ ⟨r.val % 4096, by omega⟩ k) := by
  pointwise [place]
  exact Routing.wrap_of_lt _ _ (by omega)

/-- The flattened position of a token. -/
abbrev flatPos (b : Fin 2) (s : Fin 4096) : Fin 8192 := ⟨b.val * 4096 + s.val, by omega⟩

/-- Where each of the eight lands: in its token's row, at its gene. -/
theorem lands (l : FVec Ideal S2x4096x64 .f32) (b : Fin 2) (s : Fin 4096) (g : Fin 64) (r : Fin 8192) (k : Fin 8) :
    scatter_S8192x64_S8192x8x2_S8192x8_n_01_01_2.resultIdx? (ix2 r k) (place (inds l)) = some (ix2 (flatPos b s) g) ↔
      r = flatPos b s ∧ ord (fun g => l (ix3 b s g)) (pos k) = g := by
  rw [ix2_eq_valueIdx r k, ix2_eq_valueIdx (flatPos b s) g,
    Routing.scatter_lands2 scatter_S8192x64_S8192x8x2_S8192x8_n_01_01_2 rfl rfl rfl, ← ix3_eq_valueIdx, ← ix3_eq_valueIdx]
  have hi := inds_at l ⟨r.val / 4096, by omega⟩ ⟨r.val % 4096, by omega⟩ k
  rw [place_row, place_col (inds l) r k (by rw [hi, BitVec.toNat_ofNat]; omega), hi,
    StableHlo.Predicate.toInt_ofNat_small _ (by omega), StableHlo.Predicate.toInt_ofNat_small _ (by omega)]
  constructor
  · rintro ⟨h1, h2⟩
    have h1 : r = flatPos b s := Fin.ext (by exact_mod_cast h1)
    have hb : (⟨r.val / 4096, by omega⟩ : Fin 2) = b := Fin.ext (by subst h1; show (b.val * 4096 + s.val) / 4096 = b.val; omega)
    have hs : (⟨r.val % 4096, by omega⟩ : Fin 4096) = s := Fin.ext (by subst h1; show (b.val * 4096 + s.val) % 4096 = s.val; omega)
    rw [hb, hs] at h2
    exact ⟨h1, Fin.ext (by exact_mod_cast h2)⟩
  · rintro ⟨h1, h2⟩
    have hb : (⟨r.val / 4096, by omega⟩ : Fin 2) = b := Fin.ext (by subst h1; show (b.val * 4096 + s.val) / 4096 = b.val; omega)
    have hs : (⟨r.val % 4096, by omega⟩ : Fin 4096) = s := Fin.ext (by subst h1; show (b.val * 4096 + s.val) % 4096 = s.val; omega)
    rw [hb, hs, h2, h1]
    exact ⟨rfl, rfl⟩

theorem upd_at (p : FVec Ideal S2x4096x8 .f32) (b : Fin 2) (s : Fin 4096) (k : Fin 8) :
    (shapeCast S8192x8 p shapeCasts_S2x4096x8_S8192x8) (ix2 (flatPos b s) k) = p (ix3 b s k) := by
  pointwise
  rw [show (⟨(b.val * 4096 + s.val) / 4096, by omega⟩ : Fin 2) = b from Fin.ext (by show (b.val * 4096 + s.val) / 4096 = b.val; omega),
    show (⟨(b.val * 4096 + s.val) % 4096, by omega⟩ : Fin 4096) = s from Fin.ext (by show (b.val * 4096 + s.val) % 4096 = s.val; omega)]

/-- The weight written at the `k`-th greatest logit's gene. -/
theorem spread_hit (l : FVec Ideal S2x4096x64 .f32) (p : FVec Ideal S2x4096x8 .f32) (b : Fin 2) (s : Fin 4096) (k : Fin 8) :
    spread (inds l) p (ix2 (flatPos b s) (ord (fun g => l (ix3 b s g)) (pos k))) = p (ix3 b s k) := by
  refine Routing.scatter_set_hit _ _ _ _ _ _ (fun u hu => ?_) (ix2 (flatPos b s) k) ((lands l b s _ _ k).2 ⟨rfl, rfl⟩)
  idx_vars u
  obtain ⟨h1, h2⟩ := (lands l b s _ _ _).1 hu
  have h2 := congrArg Fin.val (ord_inj _ h2)
  have h3 : u1 = k := Fin.ext h2
  rw [h1, h3]
  exact upd_at p b s k

/-- Elsewhere the weight is zero. -/
theorem spread_miss (l : FVec Ideal S2x4096x64 .f32) (p : FVec Ideal S2x4096x8 .f32) (b : Fin 2) (s : Fin 4096) (i : Fin 64) (hi : ¬ i.val < 8) :
    spread (inds l) p (ix2 (flatPos b s) (ord (fun g => l (ix3 b s g)) i)) = 0 := by
  refine (Routing.scatter_set_miss _ _ _ _ _ fun u hu => ?_).trans (by pointwise)
  idx_vars u
  obtain ⟨h1, h2⟩ := (lands l b s _ _ _).1 hu
  have h2 := congrArg Fin.val (ord_inj _ h2)
  exact hi (lt_of_eq_of_lt h2.symm u1.isLt)

/-- Where the order is strict, the weights written are the kernel's. -/
theorem spread_at (l : FVec Ideal S2x4096x64 .f32) (b : Fin 2) (s : Fin 4096) (g : Fin 64)
    (h : Order (fun g => l (ix3 b s g)) (ord (fun g => l (ix3 b s g)))) :
    spread (inds l) (probs (exps (vals l))) (ix2 (flatPos b s) g) = kp (fun g => l (ix3 b s g)) g := by
  obtain ⟨i, rfl⟩ := h.surj g
  by_cases hi : i.val < 8
  · rw [show i = pos ⟨i.val, hi⟩ from rfl, spread_hit, probs_at, h.kp_pos]
    congr 1
    funext k
    exact vals_at l b s k
  · rw [spread_miss l _ b s i hi, h.kp_not hi]

theorem mixed_at (s : FVec Ideal S8192x64 .f32) (ge : FVec Ideal S64x1024 .f32) (b : Fin 2) (t : Fin 4096) (k : Fin 1024) :
    mixed s ge (ix3 b t k) = ∑ g : Fin 64, s (ix2 ⟨b.val * 4096 + t.val, by omega⟩ g) * ge (ix2 g k) := by
  pointwise [mixed]

theorem final_at (g : FVec Ideal S2x4096x1024 .f32) (xn : FVec Ideal S2x4096x2048 .f32) (wd wu : FVec Ideal S2048x1024 .f32) (sc : FVec Ideal S_ .f32)
    (b : Fin 2) (s : Fin 4096) (d : Fin 2048) :
    final g xn wd wu sc (ix3 b s d) = ((Ideal.tanh (∑ k, g (ix3 b s k) * wd (ix2 d k)) * xn (ix3 b s d)) * ∑ k, g (ix3 b s k) * wu (ix2 d k)) * sc ix0 := by
  pointwise [final]

/-- The reference's result at a token and a column, where the token's logits have a strict order. -/
theorem result_at (x : FVec Ideal S2x4096x2048 .f32) (wc : FVec Ideal S64x2048 .f32) (te : FVec Ideal S_ .f32) (ge : FVec Ideal S64x1024 .f32)
    (wd wu : FVec Ideal S2048x1024 .f32) (rw : FVec Ideal S2048 .f32) (sc : FVec Ideal S_ .f32) (b : Fin 2) (s : Fin 4096) (d : Fin 2048)
    (h : Order (fun g => lg x wc te rw (ix3 b s g)) (ord (fun g => lg x wc te rw (ix3 b s g)))) :
    result x wc te ge wd wu rw sc (ix3 b s d) =
      ((Ideal.tanh (∑ k : Fin 1024, (∑ g : Fin 64, kp (fun g => lg x wc te rw (ix3 b s g)) g * ge (ix2 g k)) * wd (ix2 d k))
          * (nrm (fun d => x (ix3 b s d)) d * rw (ix1 d)))
        * ∑ k : Fin 1024, (∑ g : Fin 64, kp (fun g => lg x wc te rw (ix3 b s g)) g * ge (ix2 g k)) * wu (ix2 d k)) * sc ix0 := by
  unfold result
  rw [final_at, xn_at]
  simp only [mixed_at, spread_at _ b s _ h]

/-- The reference's logit: the normalized and weighted token against the gene's row, over the temperature. -/
theorem lg_at (x : FVec Ideal S2x4096x2048 .f32) (wc : FVec Ideal S64x2048 .f32) (te : FVec Ideal S_ .f32) (rw : FVec Ideal S2048 .f32)
    (b : Fin 2) (s : Fin 4096) (g : Fin 64) :
    lg x wc te rw (ix3 b s g) = Ideal.div (∑ d, (nrm (fun d => x (ix3 b s d)) d * rw (ix1 d)) * wc (ix2 g d))
      (max (te ix0) (Ideal.ofBits .f32 0x3DCCCCCD#32)) := by
  unfold lg
  rw [logits_at]
  simp only [xn_at]

end Cert.Dna.Ref

end
-- ==== Proof.Algebra.lean ====
/- The algebra, over the extended reals, between the kernel's order of multiplications and the reference's. -/
module

public import proofs.«01_k».proof.Proof.Select

@[expose] public section

noncomputable section

namespace Cert.Dna

open Idealize.ShloMosaic
open scoped BigOperators

/-- A finite sum times a nonnegative real number. -/
theorem sum_mul_real {ι : Type} (s : Finset ι) (f : ι → EReal) (i : EReal) (h0 : 0 ≤ i) (h1 : i ≠ ⊤) :
    (∑ k ∈ s, f k) * i = ∑ k ∈ s, f k * i := by
  classical
  induction s using Finset.induction_on with
  | empty => simp
  | insert a s ha ih => rw [Finset.sum_insert ha, Finset.sum_insert ha, EReal.right_distrib_of_nonneg_of_ne_top h0 h1, ih]

theorem tenth_pos : (0 : EReal) < Ideal.ofBits .f32 0x3DCCCCCD#32 := by
  simp only [Ideal.ofBits, Ideal.ieee]
  simp [-EReal.coe_mul]

theorem inv_ne_top {x : EReal} (h : 0 < x) : x⁻¹ ≠ ⊤ := by
  induction x with
  | bot => exact absurd h not_lt_bot
  | top => simp
  | coe r => rw [← EReal.coe_inv]; exact EReal.coe_ne_top _

/-- The kernel divides the router's weights by the temperature before the product, the reference divides the product. -/
theorem logit_eq {n : ℕ} (t : EReal) (w r x : Fin n → EReal) :
    ∑ d, (w d * (r d * Ideal.div 1 (max t (Ideal.ofBits .f32 0x3DCCCCCD#32)))) * x d =
      Ideal.div (∑ d, (x d * r d) * w d) (max t (Ideal.ofBits .f32 0x3DCCCCCD#32)) := by
  have hT : 0 < max t (Ideal.ofBits .f32 0x3DCCCCCD#32) := lt_max_of_lt_right tenth_pos
  generalize max t (Ideal.ofBits .f32 0x3DCCCCCD#32) = T at hT
  unfold Ideal.div
  rw [if_neg hT.ne', if_neg hT.ne', one_mul, sum_mul_real _ _ _ (EReal.inv_nonneg_of_nonneg hT.le) (inv_ne_top hT)]
  refine Finset.sum_congr rfl fun d _ => ?_
  ac_rfl

/-- The two orders of the sums agree on real numbers. -/
theorem swap_sums (p : Fin 64 → EReal) (e : Fin 64 → Fin 1024 → EReal) (w : Fin 1024 → EReal)
    (hp : ∀ g, ∃ r : ℝ, p g = r) (he : ∀ g k, ∃ r : ℝ, e g k = r) (hw : ∀ k, ∃ r : ℝ, w k = r) :
    ∑ k, (∑ g, p g * e g k) * w k = ∑ g, p g * ∑ k, e g k * w k := by
  choose p' hp using hp
  choose e' he using he
  choose w' hw using hw
  simp only [hp, he, hw, ← EReal.coe_mul, ← coe_sum]
  congr 1
  simp only [Finset.sum_mul, Finset.mul_sum]
  rw [Finset.sum_comm]
  exact Finset.sum_congr rfl fun g _ => Finset.sum_congr rfl fun k _ => by ring

/-- A common real factor leaves the sum. -/
theorem sum_factor (p : Fin 64 → EReal) (e : Fin 64 → Fin 1024 → EReal) (w : Fin 1024 → EReal) (a : EReal)
    (hp : ∀ g, ∃ r : ℝ, p g = r) (he : ∀ g k, ∃ r : ℝ, e g k = r) (hw : ∀ k, ∃ r : ℝ, w k = r) (ha : ∃ r : ℝ, a = r) :
    ∑ g, p g * ((∑ k, e g k * w k) * a) = (∑ g, p g * ∑ k, e g k * w k) * a := by
  choose p' hp using hp
  choose e' he using he
  choose w' hw using hw
  obtain ⟨a', rfl⟩ := ha
  simp only [hp, he, hw, ← EReal.coe_mul, ← coe_sum]
  congr 1
  rw [Finset.sum_mul]
  exact Finset.sum_congr rfl fun g _ => by ring

/-- The kernel's product at a column is the reference's: weights, genes, projections, norm weight and scale are real. -/
theorem out_eq (p : Fin 64 → EReal) (e : Fin 64 → Fin 1024 → EReal) (wd wu : Fin 1024 → EReal) (x r s : EReal)
    (hp : ∀ g, ∃ r : ℝ, p g = r) (he : ∀ g k, ∃ r : ℝ, e g k = r) (hd : ∀ k, ∃ r : ℝ, wd k = r) (hu : ∀ k, ∃ r : ℝ, wu k = r)
    (hr : ∃ a : ℝ, r = a) (hs : ∃ a : ℝ, s = a) :
    (Ideal.tanh (∑ g, p g * ∑ k, e g k * wd k) * x) * ∑ g, p g * ((∑ k, e g k * wu k) * (r * s)) =
      ((Ideal.tanh (∑ k, (∑ g, p g * e g k) * wd k) * (x * r)) * ∑ k, (∑ g, p g * e g k) * wu k) * s := by
  have hrs : ∃ a : ℝ, r * s = a := by
    obtain ⟨a, rfl⟩ := hr
    obtain ⟨b, rfl⟩ := hs
    exact ⟨a * b, (EReal.coe_mul a b).symm⟩
  rw [sum_factor p e wu (r * s) hp he hu hrs, swap_sums p e wd hp he hd, swap_sums p e wu hp he hu]
  ac_rfl

end Cert.Dna

end
-- ==== Proof.Agree.lean ====
/- The kernel's result and the reference's, at a token and a column, are equal where the token's logits have a strict order
   and the parameters but the router's are real. -/
module

public import proofs.«01_k».proof.Proof.Stages
public import proofs.«01_k».proof.Proof.Algebra
public import proofs.«01_k».proof.Proof.KernelRun

@[expose] public section

set_option maxRecDepth 16384

noncomputable section

namespace Cert.Dna

open Idealize.ShloMosaic Cert.ReferenceIdeal
open scoped BigOperators

/-- Every entry of the array is a real number. -/
def Finite {s : Shape} (v : FVec Ideal s .f32) : Prop := ∀ i, ∃ r : ℝ, v i = r

variable (x : FVec Ideal S2x4096x2048 .f32) (wc : FVec Ideal S64x2048 .f32) (te : FVec Ideal S_ .f32) (ge : FVec Ideal S64x1024 .f32)
  (wd wu : FVec Ideal S2048x1024 .f32) (rw : FVec Ideal S2048 .f32) (sc : FVec Ideal S_ .f32)

/-- The kernel's logits of a token are the reference's. -/
theorem klg_eq (b : Fin 2) (s : Fin 4096) :
    klg (fun g d => wc (ix2 g d) * (rw (ix1 d) * tinv (te ix0))) (fun d => x (ix3 b s d)) = fun g => Ref.lg x wc te rw (ix3 b s g) := by
  funext g
  rw [Ref.lg_at]
  exact logit_eq (te ix0) (fun d => wc (ix2 g d)) (fun d => rw (ix1 d)) (nrm fun d => x (ix3 b s d))

/-- The kernel's result is the reference's. -/
theorem kval_eq (b : Fin 2) (s : Fin 4096) (d : Fin 2048)
    (h : Order (fun g => Ref.lg x wc te rw (ix3 b s g)) (ord (fun g => Ref.lg x wc te rw (ix3 b s g))))
    (hge : Finite ge) (hwd : Finite wd) (hwu : Finite wu) (hrw : Finite rw) (hsc : Finite sc) :
    kval x wc te ge wd wu rw sc b s d = Ref.result x wc te ge wd wu rw sc (ix3 b s d) := by
  rw [Ref.result_at x wc te ge wd wu rw sc b s d h]
  unfold kval kout
  rw [klg_eq]
  exact out_eq _ (fun g k => ge (ix2 g k)) (fun k => wd (ix2 d k)) (fun k => wu (ix2 d k)) _ (rw (ix1 d)) (sc ix0)
    (fun g => h.kp_real g) (fun g k => hge _) (fun k => hwd _) (fun k => hwu _) (hrw _) (hsc _)

end Cert.Dna

end
-- ==== Proof.Tame.lean ====
/- What the precondition says, read over the extended reals: every token's logits have a strict order down to the ninth, the
   greatest is below +inf, and the parameters but the router's are real. -/
module

public import proofs.«01_k».proof.Proof.Agree
public import proofs.«01_k».proof.Proof.Gen.Pre_tame

@[expose] public section

set_option maxRecDepth 16384

noncomputable section

namespace Cert.Dna

open Idealize.ShloMosaic Cert.ReferenceIdeal
open scoped BigOperators

theorem ofBits_pinf : Ideal.ofBits .f32 0x7F800000#32 = ⊤ := by simp [Ideal.ofBits, Ideal.ieee]

theorem bool_one {p : Prop} [Decidable p] (h : BitVec.ofBool (decide p) = 1#1) : p := by
  by_contra hp
  simp [hp] at h

/-- An extended real whose absolute value is below +inf is a real number. -/
theorem real_of_abs {a : EReal} (h : max a (-a) < ⊤) : ∃ r : ℝ, a = r := by
  have h1 : a ≠ ⊤ := fun e => by rw [e] at h; exact absurd (lt_of_le_of_lt (le_max_left _ _) h) (lt_irrefl _)
  have h2 : a ≠ ⊥ := fun e => by rw [e] at h; exact absurd (lt_of_le_of_lt (le_max_right _ _) h) (by simp)
  exact ⟨a.toReal, (EReal.coe_toReal h1 h2).symm⟩

/-- An array whose absolute values all compare below +inf is of real numbers. -/
theorem finite_of {s : Shape} (v : FVec Ideal s .f32) (u : FVec Ideal s .f32) (hu : ∀ i, u i = Ideal.ofBits .f32 0x7F800000#32)
    (h : cmpf .olt (Host.absf v) u = fun _ => 1#1) : Finite v := by
  intro i
  have e : BitVec.ofBool (decide (max (v i) (-(v i)) < u i)) = 1#1 := congrFun h i
  rw [hu, ofBits_pinf] at e
  exact real_of_abs (bool_one e)

variable (x : FVec Ideal S2x4096x2048 .f32) (wc : FVec Ideal S64x2048 .f32) (te : FVec Ideal S_ .f32) (ge : FVec Ideal S64x1024 .f32)
  (wd wu : FVec Ideal S2048x1024 .f32) (rw : FVec Ideal S2048 .f32) (sc : FVec Ideal S_ .f32)

/-- The nine greatest logits of each token. -/
def nine (l : FVec Ideal S2x4096x64 .f32) : FVec Ideal Cert.Pre_tame.S2x4096x9 .f32 :=
  (Host.topK Cert.Pre_tame.S2x4096x9 2 (FloatOps.cmpfTotal .gt) l Cert.Pre_tame.Facts.sliceFits_S2x4096x64_S2x4096x9).1

theorem nine_at (l : FVec Ideal S2x4096x64 .f32) (b : Fin 2) (s : Fin 4096) (k : Fin 9) :
    nine l (ix3 b s k) = l (ix3 b s (ord (fun g => l (ix3 b s g)) ⟨k.val, by omega⟩)) := topK_val (by omega) l _ b s k

/-- Each of the first eight of nine above its successor. -/
theorem strict_of (v : FVec Ideal Cert.Pre_tame.S2x4096x9 .f32)
    (h : cmpf .ogt (extractStridedSlice Cert.Pre_tame.S2x4096x8 ![0, 0, 0] v Cert.Pre_tame.Facts.slices_S2x4096x9_S2x4096x8_0_0_0)
      (extractStridedSlice Cert.Pre_tame.S2x4096x8 ![0, 0, 1] v Cert.Pre_tame.Facts.slices_S2x4096x9_S2x4096x8_0_0_1) = fun _ => 1#1)
    (b : Fin 2) (s : Fin 4096) (k : Fin 8) : v (ix3 b s ⟨k.val + 1, by omega⟩) < v (ix3 b s ⟨k.val, by omega⟩) := by
  have e := congrFun h (ix3 b s k)
  pointwise at e
  have e := bool_one e
  rw [show (⟨k.val + 1, by omega⟩ : Fin 9) = ⟨1 + k.val, by omega⟩ from Fin.ext (Nat.add_comm _ _)]
  exact e

/-- The greatest below +inf. -/
theorem top_of (v : FVec Ideal Cert.Pre_tame.S2x4096x9 .f32)
    (h : cmpf .olt (extractStridedSlice Cert.Pre_tame.S2x4096x1 ![0, 0, 0] v Cert.Pre_tame.Facts.slices_S2x4096x9_S2x4096x1_0_0_0)
      (broadcastInDim Cert.Pre_tame.S2x4096x1 ![] Cert.Pre_tame.Facts.bcast_S_S2x4096x1 (constant Cert.Pre_tame.S_ .f32 0x7F800000#32)) = fun _ => 1#1)
    (b : Fin 2) (s : Fin 4096) : v (ix3 b s 0) < ⊤ := by
  have e := congrFun h (ix3 b s 0)
  pointwise at e
  have e := bool_one e
  rw [ofBits_pinf] at e
  exact e

/-- The precondition's first two arrays, as comparisons of the reference's logits. -/
theorem fn_fst : (Cert.Pre_tame.fn (F := Ideal) x wc te ge wd wu rw sc).1 =
    cmpf .ogt (extractStridedSlice Cert.Pre_tame.S2x4096x8 ![0, 0, 0] (nine (Ref.lg x wc te rw)) Cert.Pre_tame.Facts.slices_S2x4096x9_S2x4096x8_0_0_0)
      (extractStridedSlice Cert.Pre_tame.S2x4096x8 ![0, 0, 1] (nine (Ref.lg x wc te rw)) Cert.Pre_tame.Facts.slices_S2x4096x9_S2x4096x8_0_0_1) := by
  unfold nine Ref.lg Ref.logits Ref.xn
  rfl

theorem fn_snd : (Cert.Pre_tame.fn (F := Ideal) x wc te ge wd wu rw sc).2.1 =
    cmpf .olt (extractStridedSlice Cert.Pre_tame.S2x4096x1 ![0, 0, 0] (nine (Ref.lg x wc te rw)) Cert.Pre_tame.Facts.slices_S2x4096x9_S2x4096x1_0_0_0)
      (broadcastInDim Cert.Pre_tame.S2x4096x1 ![] Cert.Pre_tame.Facts.bcast_S_S2x4096x1 (constant Cert.Pre_tame.S_ .f32 0x7F800000#32)) := by
  unfold nine Ref.lg Ref.logits Ref.xn
  rfl

theorem order_of (h1 : (Cert.Pre_tame.fn (F := Ideal) x wc te ge wd wu rw sc).1 = fun _ => 1#1)
    (h2 : (Cert.Pre_tame.fn (F := Ideal) x wc te ge wd wu rw sc).2.1 = fun _ => 1#1) (b : Fin 2) (s : Fin 4096) :
    Order (fun g => Ref.lg x wc te rw (ix3 b s g)) (ord (fun g => Ref.lg x wc te rw (ix3 b s g))) := by
  rw [fn_fst] at h1
  rw [fn_snd] at h2
  refine ord_order _ (fun k => ?_) ?_
  · have h := strict_of _ h1 b s k
    rw [nine_at, nine_at] at h
    exact h
  · have h := top_of _ h2 b s
    rw [nine_at] at h
    exact h

/-- Under the precondition the kernel's result is the reference's, at every index. -/
theorem kval_eq_of
    (h : (Cert.Pre_tame.fn (F := Ideal) x wc te ge wd wu rw sc).1 = (fun _ => 1#1)
      ∧ (Cert.Pre_tame.fn (F := Ideal) x wc te ge wd wu rw sc).2.1 = (fun _ => 1#1)
      ∧ (Cert.Pre_tame.fn (F := Ideal) x wc te ge wd wu rw sc).2.2.1 = (fun _ => 1#1)
      ∧ (Cert.Pre_tame.fn (F := Ideal) x wc te ge wd wu rw sc).2.2.2.1 = (fun _ => 1#1)
      ∧ (Cert.Pre_tame.fn (F := Ideal) x wc te ge wd wu rw sc).2.2.2.2.1 = (fun _ => 1#1)
      ∧ (Cert.Pre_tame.fn (F := Ideal) x wc te ge wd wu rw sc).2.2.2.2.2.1 = (fun _ => 1#1)
      ∧ (Cert.Pre_tame.fn (F := Ideal) x wc te ge wd wu rw sc).2.2.2.2.2.2 = (fun _ => 1#1))
    (b : Fin 2) (s : Fin 4096) (d : Fin 2048) :
    kval x wc te ge wd wu rw sc b s d = Ref.result x wc te ge wd wu rw sc (ix3 b s d) := by
  obtain ⟨h1, h2, h3, h4, h5, h6, h7⟩ := h
  exact kval_eq x wc te ge wd wu rw sc b s d (order_of x wc te ge wd wu rw sc h1 h2 b s)
    (finite_of ge _ (fun _ => rfl) h3) (finite_of wd _ (fun _ => rfl) h4) (finite_of wu _ (fun _ => rfl) h5)
    (finite_of rw _ (fun _ => rfl) h6) (finite_of sc _ (fun _ => rfl) h7)

end Cert.Dna

end
-- ==== Proof.Equal.lean ====
/- The value claim: over the extended reals, from memories the precondition admits, the kernel and the reference end with
   equal results. -/
module

public import proofs.«01_k».proof.Defs
public import proofs.«01_k».proof.Proof.KernelEnd
public import proofs.«01_k».proof.Proof.Tame

@[expose] public section

set_option maxRecDepth 16384

noncomputable section

namespace Cert.Proof

open Idealize.ShloMosaic Idealize.ShloMosaic.TcCoe Idealize.SL.Sem Cert.KernelIdeal Cert.KernelIdeal.Gen

/-- The kernel's run ends with its result at its last contents and its arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun _ h c =>
    ⟨h c _ (mem_uc main_v9 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩)
    (Cert.Dna.kernel_end m ρ)

/-- The kernel's result array is the reference's of the same arguments. -/
theorem kernel_result (m : (ℓ : Loc nD τ sig) → Buf (Elt Ideal) ℓ) (ρ : Dev nD → PrngReg) (h : Cert.Pre_KernelIdeal_tame m) (c : Dev nD) :
    (W4 m ρ c (Proc.devRef .tc main_v9) : FVec Ideal S2x4096x2048 .f32) =
      Cert.Dna.Ref.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  funext j
  idx_vars j
  exact (Cert.Dna.result_at m ρ c _ _ _).trans (Cert.Dna.kval_eq_of _ _ _ _ _ _ _ _ (h c) _ _ _)

/-- Equal results, arguments unchanged, from memories that agree on the arguments and that the precondition admits. -/
theorem algebraic : Cert.algebraic_KernelIdeal_ReferenceIdeal_pre_tame := by
  intro m g m' g' hp ha
  refine ⟨fun c => W4 m g c (Proc.devRef .tc main_v9), kernel_run m g, ?_⟩
  refine (θ_run (Cert.ReferenceIdeal.defs (F := Ideal)) _ _).mono (fun _ h c => ⟨(h c).1.trans ?_, (h c).2⟩)
    (Cert.ReferenceIdeal.Value.run (F := Ideal) m' g')
  obtain ⟨a0, a1, a2, a3, a4, a5, a6, a7⟩ := ha c
  rw [Cert.Dna.Ref.run_result, a0, a1, a2, a3, a4, a5, a6, a7]
  exact (kernel_result m g hp c).symm

end Cert.Proof

end
-- ==== Proof.lean ====
/- The certificate: the frames, the preserved casts and the equality of values, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tame
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Pre_tame.Gen.facts, by
  exact ⟨frame_p, frame_pi, frame_pi_pre, frame_ri, frame_ri_pre, trivial, algebraic⟩⟩

end Cert.Proof

end
